-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ algebraic_KernelIdeal_ReferenceIdeal_pre_finite_logits (hKernelIdeal := hKernelIdeal) (hReferenceIdeal := hReferenceIdeal) (hPre_finite_logits := hPre_finite_logits)
-- ==== Pre_finite_logits.lean ====
abbrev S32x2048x8x96 : Shape := ⟨4, ![32, 2048, 8, 96]⟩
abbrev S32x2048x8x64 : Shape := ⟨4, ![32, 2048, 8, 64]⟩
abbrev S_ : Shape := ⟨0, ![]⟩

class Facts : Prop where
  bcast_S_S32x2048x8x96 : S_.BroadcastsInDim S32x2048x8x96 (![] : Fin 0 → Fin S32x2048x8x96.rank)

variable [Facts]

def fn {F : FTy → Type} [FloatOps F] (main_arg0 : FVec F S32x2048x8x96 .f32) (main_arg1 : FVec F S32x2048x8x96 .f32) (main_arg2 : FVec F S32x2048x8x64 .f32) (main_arg3 : FVec F S32x2048x8x64 .f32) (main_arg4 : FVec F S32x2048x8x64 .f32) (main_arg5 : FVec F S32x2048x8x64 .f32) : IVec S32x2048x8x96 1 × IVec S32x2048x8x96 1 :=
  let main_v0 : FVec F S32x2048x8x96 .f32 := Host.absf main_arg0
  let main_cst : FVec F S_ .f32 := constant S_ .f32 0x7F800000#32
  let main_v1 : FVec F S32x2048x8x96 .f32 := broadcastInDim S32x2048x8x96 ![] bcast_S_S32x2048x8x96 main_cst
  let main_v2 : IVec S32x2048x8x96 1 := cmpf .olt main_v0 main_v1
  let main_v3 : FVec F S32x2048x8x96 .f32 := Host.absf main_arg1
  let main_cst_0 : FVec F S_ .f32 := constant S_ .f32 0x7F800000#32
  let main_v4 : FVec F S32x2048x8x96 .f32 := broadcastInDim S32x2048x8x96 ![] bcast_S_S32x2048x8x96 main_cst_0
  let main_v5 : IVec S32x2048x8x96 1 := cmpf .olt main_v3 main_v4
  (main_v2, main_v5)
-- ==== Kernel.lean ====
abbrev S32x2048x8x96 : Shape := ⟨4, ![32, 2048, 8, 96]⟩
abbrev S32x2048x8x64 : Shape := ⟨4, ![32, 2048, 8, 64]⟩
abbrev S_ : Shape := ⟨0, ![]⟩
abbrev S32x2048x8x128 : Shape := ⟨4, ![32, 2048, 8, 128]⟩
abbrev S32x2048x1024 : Shape := ⟨3, ![32, 2048, 1024]⟩
abbrev S32x2048x512 : Shape := ⟨3, ![32, 2048, 512]⟩
abbrev S1x2048x256 : Shape := ⟨3, ![1, 2048, 256]⟩
abbrev S1x2048x128 : Shape := ⟨3, ![1, 2048, 128]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S256x256 : Shape := ⟨2, ![256, 256]⟩
abbrev S256x1 : Shape := ⟨2, ![256, 1]⟩
abbrev S512x256 : Shape := ⟨2, ![512, 256]⟩
abbrev S1x1024x128 : Shape := ⟨3, ![1, 1024, 128]⟩
abbrev S1024x128 : Shape := ⟨2, ![1024, 128]⟩
abbrev S512x1024 : Shape := ⟨2, ![512, 1024]⟩
abbrev S1x1536x128 : Shape := ⟨3, ![1, 1536, 128]⟩
abbrev S1536x128 : Shape := ⟨2, ![1536, 128]⟩
abbrev S512x1536 : Shape := ⟨2, ![512, 1536]⟩
abbrev S2048x128 : Shape := ⟨2, ![2048, 128]⟩
abbrev S512x2048 : Shape := ⟨2, ![512, 2048]⟩

abbrev nBuf : Space → Nat
  | .hbm => 41
  | .vmem => 16
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S32x2048x8x64, .f32⟩
  | .hbm, ⟨4, _⟩ => ⟨S32x2048x8x64, .f32⟩
  | .hbm, ⟨5, _⟩ => ⟨S32x2048x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32x2048x8x96, .f32⟩
  | .hbm, ⟨18, _⟩ => ⟨S32x2048x8x96, .f32⟩
  | .hbm, ⟨19, _⟩ => ⟨S_, .i32⟩
  | .hbm, ⟨20, _⟩ => ⟨S_, .f32⟩
  | .hbm, ⟨21, _⟩ => ⟨S32x2048x8x128, .f32⟩
  | .hbm, ⟨22, _⟩ => ⟨S32x2048x8x128, .bf16⟩
  | .hbm, ⟨23, _⟩ => ⟨S_, .i32⟩
  | .hbm, ⟨24, _⟩ => ⟨S_, .f32⟩
  | .hbm, ⟨25, _⟩ => ⟨S32x2048x8x128, .f32⟩
  | .hbm, ⟨26, _⟩ => ⟨S32x2048x8x128, .bf16⟩
  | .hbm, ⟨27, _⟩ => ⟨S32x2048x8x64, .bf16⟩
  | .hbm, ⟨28, _⟩ => ⟨S32x2048x8x64, .f32⟩
  | .hbm, ⟨29, _⟩ => ⟨S32x2048x8x64, .f32⟩
  | .hbm, ⟨30, _⟩ => ⟨S32x2048x8x64, .bf16⟩
  | .hbm, ⟨31, _⟩ => ⟨S32x2048x8x64, .bf16⟩
  | .hbm, ⟨32, _⟩ => ⟨S32x2048x8x64, .bf16⟩
  | .hbm, ⟨33, _⟩ => ⟨S32x2048x1024, .bf16⟩
  | .hbm, ⟨34, _⟩ => ⟨S32x2048x1024, .bf16⟩
  | .hbm, ⟨35, _⟩ => ⟨S32x2048x512, .bf16⟩
  | .hbm, ⟨36, _⟩ => ⟨S32x2048x512, .bf16⟩
  | .hbm, ⟨37, _⟩ => ⟨S32x2048x512, .bf16⟩
  | .hbm, ⟨38, _⟩ => ⟨S32x2048x512, .bf16⟩
  | .hbm, ⟨39, _⟩ => ⟨S32x2048x512, .bf16⟩
  | .hbm, ⟨40, _⟩ => ⟨S32x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | _, _ => ⟨S32x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S32x2048x8x96 : Shape := ⟨4, ![32, 2048, 8, 96]⟩
abbrev S32x2048x8x64 : Shape := ⟨4, ![32, 2048, 8, 64]⟩
abbrev S32x8x2048x96 : Shape := ⟨4, ![32, 8, 2048, 96]⟩
abbrev S32x8x2048x64 : Shape := ⟨4, ![32, 8, 2048, 64]⟩
abbrev S2048 : Shape := ⟨1, ![2048]⟩
abbrev S32x8x2048x2048 : Shape := ⟨4, ![32, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x2048x512 : Shape := ⟨3, ![32, 2048, 512]⟩

abbrev nBuf : Space → Nat
  | .hbm => 144
  | .vmem => 0
  | .smem => 0
  | _ => 0

abbrev hbmTy0_0 (i : Nat) : BufTy := match i % 128 with
  | 0 => ⟨S32x2048x8x96, .f32⟩
  | 1 => ⟨S32x2048x8x96, .f32⟩
  | 2 => ⟨S32x2048x8x64, .f32⟩
  | 3 => ⟨S32x2048x8x64, .f32⟩
  | 4 => ⟨S32x2048x8x64, .f32⟩
  | 5 => ⟨S32x2048x8x64, .f32⟩
  | 6 => ⟨S32x8x2048x96, .f32⟩
  | 7 => ⟨S32x8x2048x96, .f32⟩
  | 8 => ⟨S32x8x2048x64, .f32⟩
  | 9 => ⟨S32x8x2048x64, .f32⟩
  | 10 => ⟨S32x8x2048x64, .f32⟩
  | 11 => ⟨S32x8x2048x64, .f32⟩
  | 12 => ⟨S2048, .i32⟩
  | 13 => ⟨S32x8x2048x2048, .f32⟩
  | 14 => ⟨S_, .f32⟩
  | 15 => ⟨S_, .f32⟩
  | 16 => ⟨S32x8x2048x2048, .f32⟩
  | 17 => ⟨S32x8x2048x2048, .f32⟩
  | 18 => ⟨S_, .i32⟩
  | 19 => ⟨S_, .i32⟩
  | 20 => ⟨S2048, .i32⟩
  | 21 => ⟨S2048, .i32⟩
  | 22 => ⟨S2048, .i32⟩
  | 23 => ⟨S_, .i32⟩
  | 24 => ⟨S2048, .i32⟩
  | 25 => ⟨S2048, .i1⟩
  | 26 => ⟨S2048, .i32⟩
  | 27 => ⟨S2048, .i32⟩
  | 28 => ⟨S_, .i32⟩
  | 29 => ⟨S2048, .i32⟩
  | 30 => ⟨S2048, .i1⟩
  | 31 => ⟨S2048, .i1⟩
  | 32 => ⟨S_, .i32⟩
  | 33 => ⟨S2048, .i32⟩
  | 34 => ⟨S2048, .i32⟩
  | 35 => ⟨S2048, .i32⟩
  | 36 => ⟨S1x2048, .i32⟩
  | 37 => ⟨S_, .i32⟩
  | 38 => ⟨S_, .i32⟩
  | 39 => ⟨S2048, .i32⟩
  | 40 => ⟨S2048, .i32⟩
  | 41 => ⟨S2048, .i32⟩
  | 42 => ⟨S_, .i32⟩
  | 43 => ⟨S2048, .i32⟩
  | 44 => ⟨S2048, .i1⟩
  | 45 => ⟨S2048, .i32⟩
  | 46 => ⟨S2048, .i32⟩
  | 47 => ⟨S_, .i32⟩
  | 48 => ⟨S2048, .i32⟩
  | 49 => ⟨S2048, .i1⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S2048x2048, .i32⟩
  | 57 => ⟨S2048x2048, .i32⟩
  | 58 => ⟨S2048x2048, .i1⟩
  | 59 => ⟨S_, .f32⟩
  | 60 => ⟨S_, .f32⟩
  | 61 => ⟨S32x8x2048x2048, .i1⟩
  | 62 => ⟨S32x8x2048x2048, .f32⟩
  | 63 => ⟨S32x8x2048x2048, .f32⟩
  | 64 => ⟨S_, .f32⟩
  | 65 => ⟨S32x8x2048, .f32⟩
  | 66 => ⟨S_, .f32⟩
  | 67 => ⟨S32x8x2048, .f32⟩
  | 68 => ⟨S32x8x2048, .f32⟩
  | 69 => ⟨S32x8x2048x1, .f32⟩
  | 70 => ⟨S32x8x2048x2048, .f32⟩
  | 71 => ⟨S32x8x2048x2048, .f32⟩
  | 72 => ⟨S32x8x2048x2048, .f32⟩
  | 73 => ⟨S_, .f32⟩
  | 74 => ⟨S32x8x2048, .f32⟩
  | 75 => ⟨S32x8x2048x1, .f32⟩
  | 76 => ⟨S32x8x2048x2048, .f32⟩
  | 77 => ⟨S32x8x2048x2048, .f32⟩
  | 78 => ⟨S32x8x2048x64, .f32⟩
  | 79 => ⟨S32x8x2048x2048, .f32⟩
  | 80 => ⟨S_, .f32⟩
  | 81 => ⟨S32x8x2048x2048, .f32⟩
  | 82 => ⟨S32x8x2048x2048, .f32⟩
  | 83 => ⟨S1x2048, .i32⟩
  | 84 => ⟨S2048x1, .i32⟩
  | 85 => ⟨S2048x2048, .i32⟩
  | 86 => ⟨S2048x2048, .i32⟩
  | 87 => ⟨S2048x2048, .i1⟩
  | 88 => ⟨S32x8x2048x2048, .f32⟩
  | 89 => ⟨S32x8x2048x2048, .f32⟩
  | 90 => ⟨S_, .f32⟩
  | 91 => ⟨S32x8x2048x2048, .f32⟩
  | 92 => ⟨S32x8x2048x2048, .f32⟩
  | 93 => ⟨S32x8x2048x2048, .f32⟩
  | 94 => ⟨S32x8x2048x2048, .f32⟩
  | 95 => ⟨S32x8x2048x2048, .i1⟩
  | 96 => ⟨S32x8x2048x2048, .f32⟩
  | 97 => ⟨S32x8x2048x2048, .f32⟩
  | 98 => ⟨S32x8x2048x2048, .f32⟩
  | 99 => ⟨S32x8x2048x2048, .f32⟩
  | 100 => ⟨S32x8x2048x2048, .f32⟩
  | 101 => ⟨S32x8x2048x2048, .f32⟩
  | 102 => ⟨S32x8x2048x2048, .f32⟩
  | 103 => ⟨S32x8x2048x2048, .f32⟩
  | 104 => ⟨S32x8x2048x2048, .f32⟩
  | 105 => ⟨S_, .f32⟩
  | 106 => ⟨S_, .f32⟩
  | 107 => ⟨S32x8x2048x2048, .i1⟩
  | 108 => ⟨S32x8x2048x2048, .f32⟩
  | 109 => ⟨S32x8x2048x2048, .f32⟩
  | 110 => ⟨S_, .f32⟩
  | 111 => ⟨S_, .f32⟩
  | 112 => ⟨S32x8x2048x2048, .f32⟩
  | 113 => ⟨S32x8x2048x2048, .f32⟩
  | 114 => ⟨S_, .f32⟩
  | 115 => ⟨S32x8x2048x2048, .f32⟩
  | 116 => ⟨S32x8x2048x2048, .f32⟩
  | 117 => ⟨S32x8x2048x2048, .f32⟩
  | 118 => ⟨S32x8x2048x2048, .f32⟩
  | 119 => ⟨S32x8x2048x2048, .i1⟩
  | 120 => ⟨S32x8x2048x2048, .f32⟩
  | 121 => ⟨S32x8x2048x2048, .f32⟩
  | 122 => ⟨S32x8x2048x2048, .f32⟩
  | 123 => ⟨S32x8x2048x2048, .f32⟩
  | 124 => ⟨S32x8x2048x2048, .f32⟩
  | 125 => ⟨S32x8x2048x2048, .f32⟩
  | 126 => ⟨S32x8x2048x2048, .f32⟩
  | 127 => ⟨S32x8x2048x2048, .f32⟩
  | _ => ⟨S32x2048x8x96, .f32⟩

abbrev hbmTy0_1 (i : Nat) : BufTy := match i % 128 with
  | 0 => ⟨S32x8x2048x2048, .f32⟩
  | 1 => ⟨S32x8x2048x2048, .f32⟩
  | 2 => ⟨S32x8x2048x2048, .f32⟩
  | 3 => ⟨S32x8x2048x2048, .f32⟩
  | 4 => ⟨S_, .f32⟩
  | 5 => ⟨S_, .f32⟩
  | 6 => ⟨S32x8x2048x2048, .i1⟩
  | 7 => ⟨S32x8x2048x2048, .f32⟩
  | 8 => ⟨S32x8x2048x2048, .f32⟩
  | 9 => ⟨S32x8x2048x64, .f32⟩
  | 10 => ⟨S32x2048x8x64, .f32⟩
  | 11 => ⟨S32x2048x512, .f32⟩
  | 12 => ⟨S32x2048x512, .bf16⟩
  | 13 => ⟨S32x2048x8x64, .f32⟩
  | 14 => ⟨S32x2048x512, .f32⟩
  | 15 => ⟨S32x2048x512, .bf16⟩
  | _ => ⟨S32x2048x8x96, .f32⟩

abbrev hbmTy (i : Nat) : BufTy := match i / 128 with
  | 0 => hbmTy0_0 i
  | 1 => hbmTy0_1 i
  | _ => ⟨S32x2048x8x96, .f32⟩

abbrev bufTy : (tb : Table) → Fin (tcTables nBuf tb) → BufTy
  | .hbm, ⟨i, _⟩ => hbmTy i
  | _, _ => ⟨S32x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v18 : Ref sig .tc := ⟨.hbm, 63, rfl⟩
abbrev main_cst_2 : Ref sig .tc := ⟨.hbm, 64, rfl⟩
abbrev main_v19 : Ref sig .tc := ⟨.hbm, 65, rfl⟩
abbrev main_cst_3 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_call3_v0 : Ref sig .tc := ⟨.hbm, 89, rfl⟩
abbrev main_call3_call0_cst : Ref sig .tc := ⟨.hbm, 90, rfl⟩
abbrev main_call3_call0_v0 : Ref sig .tc := ⟨.hbm, 91, rfl⟩
abbrev main_call3_call0_v1 : Ref sig .tc := ⟨.hbm, 92, rfl⟩
abbrev main_call3_call0_v2 : Ref sig .tc := ⟨.hbm, 93, rfl⟩
abbrev main_call3_call0_v3 : Ref sig .tc := ⟨.hbm, 94, rfl⟩
abbrev main_call3_call0_v4 : Ref sig .tc := ⟨.hbm, 95, rfl⟩
abbrev main_call3_call0_v5 : Ref sig .tc := ⟨.hbm, 96, rfl⟩
abbrev main_call3_call0_v6 : Ref sig .tc := ⟨.hbm, 97, rfl⟩
abbrev main_call3_call0_v7 : Ref sig .tc := ⟨.hbm, 98, rfl⟩
abbrev main_call3_call0_v8 : Ref sig .tc := ⟨.hbm, 99, rfl⟩
abbrev main_call3_call0_v9 : Ref sig .tc := ⟨.hbm, 100, rfl⟩
abbrev main_call3_call0_v10 : Ref sig .tc := ⟨.hbm, 101, rfl⟩
abbrev main_call3_call0_v11 : Ref sig .tc := ⟨.hbm, 102, rfl⟩
abbrev main_call3_v1 : Ref sig .tc := ⟨.hbm, 103, rfl⟩
abbrev main_v40 : Ref sig .tc := ⟨.hbm, 104, rfl⟩
abbrev main_cst_6 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v41 : Ref sig .tc := ⟨.hbm, 109, rfl⟩
abbrev main_call5_cst : Ref sig .tc := ⟨.hbm, 110, rfl⟩
abbrev main_call5_v0 : Ref sig .tc := ⟨.hbm, 111, rfl⟩
abbrev main_v42 : Ref sig .tc := ⟨.hbm, 112, rfl⟩
abbrev main_call6_v0 : Ref sig .tc := ⟨.hbm, 113, rfl⟩
abbrev main_call6_call0_cst : Ref sig .tc := ⟨.hbm, 114, rfl⟩
abbrev main_call6_call0_v0 : Ref sig .tc := ⟨.hbm, 115, rfl⟩
abbrev main_call6_call0_v1 : Ref sig .tc := ⟨.hbm, 116, rfl⟩
abbrev main_call6_call0_v2 : Ref sig .tc := ⟨.hbm, 117, rfl⟩
abbrev main_call6_call0_v3 : Ref sig .tc := ⟨.hbm, 118, rfl⟩
abbrev main_call6_call0_v4 : Ref sig .tc := ⟨.hbm, 119, rfl⟩
abbrev main_call6_call0_v5 : Ref sig .tc := ⟨.hbm, 120, rfl⟩
abbrev main_call6_call0_v6 : Ref sig .tc := ⟨.hbm, 121, rfl⟩
abbrev main_call6_call0_v7 : Ref sig .tc := ⟨.hbm, 122, rfl⟩
abbrev main_call6_call0_v8 : Ref sig .tc := ⟨.hbm, 123, rfl⟩
abbrev main_call6_call0_v9 : Ref sig .tc := ⟨.hbm, 124, rfl⟩
abbrev main_call6_call0_v10 : Ref sig .tc := ⟨.hbm, 125, rfl⟩
abbrev main_call6_call0_v11 : Ref sig .tc := ⟨.hbm, 126, rfl⟩
abbrev main_call6_v1 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_cst_7 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩

abbrev nD : Nat := 1
abbrev τ : Topo := Topo.v7x

variable {F : FTy → Type} [FloatOps F]
-- ==== Kernel2.lean ====
abbrev S32 : Shape := ⟨1, ![32]⟩
abbrev S335872x512 : Shape := ⟨2, ![335872, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S656 : Shape := ⟨1, ![656]⟩
abbrev S656x1 : Shape := ⟨2, ![656, 1]⟩
abbrev S1x32 : Shape := ⟨2, ![1, 32]⟩
abbrev S656x32 : Shape := ⟨2, ![656, 32]⟩
abbrev S1 : Shape := ⟨1, ![1]⟩
abbrev S32x1x2048 : Shape := ⟨3, ![32, 1, 2048]⟩
abbrev S32x1x1024 : Shape := ⟨3, ![32, 1, 1024]⟩
abbrev S335872x1024 : Shape := ⟨2, ![335872, 1024]⟩
abbrev S512x512 : Shape := ⟨2, ![512, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S1x256x2048 : Shape := ⟨3, ![1, 256, 2048]⟩
abbrev S256x2048 : Shape := ⟨2, ![256, 2048]⟩
abbrev S1x256x1024 : Shape := ⟨3, ![1, 256, 1024]⟩
abbrev S256x1024 : Shape := ⟨2, ![256, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 51
  | .vmem => 14
  | .smem => 2
  | _ => 0

abbrev bufTy : (tb : Table) → Fin (tcTables nBuf tb) → BufTy
  | .hbm, ⟨0, _⟩ => ⟨S32, .i32⟩
  | .hbm, ⟨1, _⟩ => ⟨S335872x512, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S656, .i32⟩
  | .hbm, ⟨34, _⟩ => ⟨S656x1, .i32⟩
  | .hbm, ⟨35, _⟩ => ⟨S1x32, .i32⟩
  | .hbm, ⟨36, _⟩ => ⟨S656x32, .i32⟩
  | .hbm, ⟨37, _⟩ => ⟨S656x32, .i32⟩
  | .hbm, ⟨38, _⟩ => ⟨S656x32, .i1⟩
  | .hbm, ⟨39, _⟩ => ⟨S656x32, .i32⟩
  | .hbm, ⟨40, _⟩ => ⟨S_, .i32⟩
  | .hbm, ⟨41, _⟩ => ⟨S656, .i32⟩
  | .hbm, ⟨42, _⟩ => ⟨S_, .i32⟩
  | .hbm, ⟨43, _⟩ => ⟨S656, .i32⟩
  | .hbm, ⟨44, _⟩ => ⟨S1, .i32⟩
  | .hbm, ⟨45, _⟩ => ⟨S_, .i32⟩
  | .hbm, ⟨46, _⟩ => ⟨S656, .i32⟩
  | .hbm, ⟨47, _⟩ => ⟨S656, .i1⟩
  | .hbm, ⟨48, _⟩ => ⟨S32x1x2048, .f32⟩
  | .hbm, ⟨49, _⟩ => ⟨S32x1x1024, .f32⟩
  | .hbm, ⟨50, _⟩ => ⟨S335872x1024, .bf16⟩
  | .local _ .vmem, ⟨0, _⟩ => ⟨S512x512, .i32⟩
  | .local _ .vmem, ⟨1, _⟩ => ⟨S512x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S656, .i32⟩
  | .local _ .smem, ⟨1, _⟩ => ⟨S656, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v15 : Ref sig .tc := ⟨.smem, 0, rfl⟩
abbrev main_v20 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![656], ![false]⟩

abbrev pre0 : Pipeline.Prefetch sig := ⟨2, ![main_v15.idx, main_v20.idx], fun | 0 => main_v15.names | 1 => main_v20.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (k0_off1_inb : ∀ i : grid0.Coords, ∀ a, (k0_off1 i) a + S1.size a ≤ S656.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S656) ![v0.toNat] S1.size (k0_off1_inb i)) numel1_S1
  let v2 : BitVec 32 := Scalar.muli arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32 : Shape := ⟨1, ![32]⟩
abbrev S335872x512 : Shape := ⟨2, ![335872, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S335872 : Shape := ⟨1, ![335872]⟩
abbrev S335872x1 : Shape := ⟨2, ![335872, 1]⟩
abbrev S1x32 : Shape := ⟨2, ![1, 32]⟩
abbrev S335872x32 : Shape := ⟨2, ![335872, 32]⟩
abbrev S335872x1024 : Shape := ⟨2, ![335872, 1024]⟩
abbrev S32x2048x335872 : Shape := ⟨3, ![32, 2048, 335872]⟩
abbrev S32x335872x2048 : Shape := ⟨3, ![32, 335872, 2048]⟩
abbrev S32x1x2048 : Shape := ⟨3, ![32, 1, 2048]⟩
abbrev S32x335872x1024 : Shape := ⟨3, ![32, 335872, 1024]⟩
abbrev S32x1x1024 : Shape := ⟨3, ![32, 1, 1024]⟩
abbrev S32x1 : Shape := ⟨2, ![32, 1]⟩
abbrev S1x335872 : Shape := ⟨2, ![1, 335872]⟩
abbrev S32x335872 : Shape := ⟨2, ![32, 335872]⟩
abbrev S1 : Shape := ⟨1, ![1]⟩
abbrev S32x335872x1 : Shape := ⟨3, ![32, 335872, 1]⟩

abbrev nBuf : Space → Nat
  | .hbm => 129
  | .vmem => 0
  | .smem => 0
  | _ => 0

abbrev hbmTy0_0 (i : Nat) : BufTy := match i % 128 with
  | 0 => ⟨S32, .i32⟩
  | 1 => ⟨S335872x512, .i32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S_, .i32⟩
  | 11 => ⟨S32, .i32⟩
  | 12 => ⟨S32, .i32⟩
  | 13 => ⟨S32, .i32⟩
  | 14 => ⟨S_, .i32⟩
  | 15 => ⟨S32, .i32⟩
  | 16 => ⟨S32, .i1⟩
  | 17 => ⟨S32, .i32⟩
  | 18 => ⟨S32, .i32⟩
  | 19 => ⟨S_, .i32⟩
  | 20 => ⟨S32, .i32⟩
  | 21 => ⟨S32, .i1⟩
  | 22 => ⟨S32, .i1⟩
  | 23 => ⟨S_, .i32⟩
  | 24 => ⟨S32, .i32⟩
  | 25 => ⟨S32, .i32⟩
  | 26 => ⟨S32, .i32⟩
  | 27 => ⟨S_, .i32⟩
  | 28 => ⟨S_, .i32⟩
  | 29 => ⟨S32, .i32⟩
  | 30 => ⟨S335872, .i32⟩
  | 31 => ⟨S_, .i32⟩
  | 32 => ⟨S_, .i32⟩
  | 33 => ⟨S335872, .i32⟩
  | 34 => ⟨S335872, .i32⟩
  | 35 => ⟨S335872, .i32⟩
  | 36 => ⟨S_, .i32⟩
  | 37 => ⟨S335872, .i32⟩
  | 38 => ⟨S335872, .i1⟩
  | 39 => ⟨S335872, .i32⟩
  | 40 => ⟨S335872, .i32⟩
  | 41 => ⟨S_, .i32⟩
  | 42 => ⟨S335872, .i32⟩
  | 43 => ⟨S335872, .i1⟩
  | 44 => ⟨S335872, .i1⟩
  | 45 => ⟨S_, .i32⟩
  | 46 => ⟨S335872, .i32⟩
  | 47 => ⟨S335872, .i32⟩
  | 48 => ⟨S335872, .i32⟩
  | 49 => ⟨S335872x1, .i32⟩
  | 50 => ⟨S1x32, .i32⟩
  | 51 => ⟨S335872x32, .i32⟩
  | 52 => ⟨S335872x32, .i32⟩
  | 53 => ⟨S335872x32, .i1⟩
  | 54 => ⟨S335872x32, .i32⟩
  | 55 => ⟨S_, .i32⟩
  | 56 => ⟨S335872, .i32⟩
  | 57 => ⟨S_, .i32⟩
  | 58 => ⟨S335872, .i32⟩
  | 59 => ⟨S335872, .i32⟩
  | 60 => ⟨S_, .i32⟩
  | 61 => ⟨S335872x512, .i32⟩
  | 62 => ⟨S335872x512, .i32⟩
  | 63 => ⟨S335872x512, .f32⟩
  | 64 => ⟨S_, .i32⟩
  | 65 => ⟨S335872x512, .i32⟩
  | 66 => ⟨S335872x512, .i32⟩
  | 67 => ⟨S335872x512, .f32⟩
  | 68 => ⟨S335872x1024, .f32⟩
  | 69 => ⟨S32x2048x335872, .f32⟩
  | 70 => ⟨S32x335872x2048, .f32⟩
  | 71 => ⟨S32x1x2048, .f32⟩
  | 72 => ⟨S32x335872x2048, .f32⟩
  | 73 => ⟨S32x335872x2048, .f32⟩
  | 74 => ⟨S32x335872x1024, .f32⟩
  | 75 => ⟨S_, .f32⟩
  | 76 => ⟨S32x335872x1024, .f32⟩
  | 77 => ⟨S32x335872x1024, .f32⟩
  | 78 => ⟨S32x335872x1024, .f32⟩
  | 79 => ⟨S_, .f32⟩
  | 80 => ⟨S_, .f32⟩
  | 81 => ⟨S_, .f32⟩
  | 82 => ⟨S32x335872x1024, .f32⟩
  | 83 => ⟨S32x335872x1024, .f32⟩
  | 84 => ⟨S_, .f32⟩
  | 85 => ⟨S32x335872x1024, .f32⟩
  | 86 => ⟨S32x335872x1024, .f32⟩
  | 87 => ⟨S_, .f32⟩
  | 88 => ⟨S32x335872x1024, .f32⟩
  | 89 => ⟨S32x335872x1024, .f32⟩
  | 90 => ⟨S_, .f32⟩
  | 91 => ⟨S32x335872x1024, .f32⟩
  | 92 => ⟨S32x335872x1024, .f32⟩
  | 93 => ⟨S32x335872x1024, .f32⟩
  | 94 => ⟨S32x335872x1024, .f32⟩
  | 95 => ⟨S_, .f32⟩
  | 96 => ⟨S32x335872x1024, .f32⟩
  | 97 => ⟨S32x335872x1024, .f32⟩
  | 98 => ⟨S_, .f32⟩
  | 99 => ⟨S32x335872x1024, .f32⟩
  | 100 => ⟨S32x335872x1024, .f32⟩
  | 101 => ⟨S32x335872x1024, .f32⟩
  | 102 => ⟨S32x335872x1024, .f32⟩
  | 103 => ⟨S32x335872x1024, .f32⟩
  | 104 => ⟨S32x1x1024, .f32⟩
  | 105 => ⟨S32x335872x1024, .f32⟩
  | 106 => ⟨S32x335872x1024, .f32⟩
  | 107 => ⟨S32, .i32⟩
  | 108 => ⟨S32x1, .i32⟩
  | 109 => ⟨S1x335872, .i32⟩
  | 110 => ⟨S32x335872, .i32⟩
  | 111 => ⟨S32x335872, .i32⟩
  | 112 => ⟨S32x335872, .i1⟩
  | 113 => ⟨S1, .i32⟩
  | 114 => ⟨S_, .i32⟩
  | 115 => ⟨S335872, .i32⟩
  | 116 => ⟨S335872, .i1⟩
  | 117 => ⟨S1x335872, .i1⟩
  | 118 => ⟨S32x335872, .i1⟩
  | 119 => ⟨S32x335872, .i1⟩
  | 120 => ⟨S32x335872x1, .i1⟩
  | 121 => ⟨S_, .f32⟩
  | 122 => ⟨S_, .f32⟩
  | 123 => ⟨S32x335872x1024, .i1⟩
  | 124 => ⟨S32x335872x1024, .f32⟩
  | 125 => ⟨S32x335872x1024, .f32⟩
  | 126 => ⟨S_, .f32⟩
  | 127 => ⟨S335872x1024, .f32⟩
  | _ => ⟨S32, .i32⟩

abbrev hbmTy0_1 (i : Nat) : BufTy := match i % 128 with
  | 0 => ⟨S335872x1024, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_call1_call0_c : Ref sig .tc := ⟨.hbm, 27, rfl⟩
abbrev main_call1_call0_v0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_c_2 : Ref sig .tc := ⟨.hbm, 55, rfl⟩
abbrev main_v12 : Ref sig .tc := ⟨.hbm, 56, rfl⟩
abbrev main_c_3 : Ref sig .tc := ⟨.hbm, 57, rfl⟩
abbrev main_v13 : Ref sig .tc := ⟨.hbm, 58, rfl⟩
abbrev main_v14 : Ref sig .tc := ⟨.hbm, 59, rfl⟩
abbrev main_c_4 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_c_5 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_6 : Ref sig .tc := ⟨.hbm, 79, rfl⟩
abbrev main_cst_7 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v31 : Ref sig .tc := ⟨.hbm, 86, rfl⟩
abbrev main_cst_8 : Ref sig .tc := ⟨.hbm, 87, rfl⟩
abbrev main_v32 : Ref sig .tc := ⟨.hbm, 88, rfl⟩
abbrev main_v33 : Ref sig .tc := ⟨.hbm, 89, rfl⟩
abbrev main_cst_9 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_cst_10 : Ref sig .tc := ⟨.hbm, 95, rfl⟩
abbrev main_v38 : Ref sig .tc := ⟨.hbm, 96, rfl⟩
abbrev main_v39 : Ref sig .tc := ⟨.hbm, 97, rfl⟩
abbrev main_cst_11 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_12 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v62 : Ref sig .tc := ⟨.hbm, 125, rfl⟩
abbrev main_cst_13 : Ref sig .tc := ⟨.hbm, 126, rfl⟩
abbrev main_v63 : Ref sig .tc := ⟨.hbm, 127, rfl⟩
abbrev main_v64 : Ref sig .tc := ⟨.hbm, 128, rfl⟩

abbrev nD : Nat := 1
abbrev τ : Topo := Topo.v7x

variable {F : FTy → Type} [FloatOps F]
-- ==== Proof.Maths.lean ====
/- The equations over the extended reals behind the two attentions: softmax in base 2 against softmax in base e, and
   the stick-breaking weights in base 2 against the ones in base e. No program occurs here. -/
module

public import Idealize.ShloMosaic.PureOps.Ideal.Laws

@[expose] public section

set_option maxRecDepth 16384

noncomputable section

namespace Cert.Attn

open Idealize.ShloMosaic
open scoped BigOperators

/-! ## Sums of extended reals -/

/-- A finite nonnegative factor on the right goes into a sum. -/
theorem sum_mul_const {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The negative of a sum of nonnegative terms is the sum of the negatives. -/
theorem neg_sum_nonneg {ι : Type} (s : Finset ι) (f : ι → EReal) (hf : ∀ i, 0 ≤ f i) :
    -(∑ i ∈ s, f i) = ∑ i ∈ s, -(f i) := by
  classical
  induction s using Finset.induction_on with
  | empty => simp
  | insert a s ha ih =>
    have hb : f a ≠ ⊥ := fun h => absurd (hf a) (by rw [h]; exact not_le.2 EReal.bot_lt_zero)
    have hb' : ∑ i ∈ s, f i ≠ ⊥ := fun h =>
      absurd (Finset.sum_nonneg fun i _ => hf i : 0 ≤ ∑ i ∈ s, f i) (by rw [h]; exact not_le.2 EReal.bot_lt_zero)
    rw [Finset.sum_insert ha, Finset.sum_insert ha, EReal.neg_add (.inl hb) (.inr hb'), sub_eq_add_neg, ih]

/-! ## The soft plus, in base e and in base 2 -/

/-- `log (1 + eˣ)` as a reference states it: the larger of `x` and 0, and the logarithm's remainder. -/
def lse (x : EReal) : EReal := max x 0 + Ideal.log1p (Ideal.exp (-(max x (-x))))

/-- `log₂ (1 + 2ˣ)` as the kernel states it, the factor `log₂ e` being the constant `1 / log 2`. -/
def sp2 (z : EReal) : EReal :=
  max z 0 + Ideal.log (1 + Ideal.exp2 (min z (0 - z))) * (((Real.log 2)⁻¹ : ℝ) : EReal)

theorem log_two_pos : 0 < Real.log 2 := Real.log_pos (by norm_num)

theorem exp2_coe_div (r : ℝ) : Ideal.exp2 ((r * (Real.log 2)⁻¹ : ℝ) : EReal) = ((Real.exp r : ℝ) : EReal) := by
  show ((Real.rpow 2 (r * (Real.log 2)⁻¹) : ℝ) : EReal) = _
  congr 1
  show (2 : ℝ) ^ (r * (Real.log 2)⁻¹) = _
  rw [Real.rpow_def_of_pos (by norm_num)]
  congr 1
  have := log_two_pos.ne'
  field_simp

theorem log_one_add (r : ℝ) (h : 0 ≤ r) : Ideal.log (1 + (r : EReal)) = ((Real.log (1 + r) : ℝ) : EReal) := by
  have e : (1 : EReal) + (r : EReal) = ((1 + r : ℝ) : EReal) := by rw [EReal.coe_add, EReal.coe_one]
  rw [e]
  show (if 1 + r ≤ 0 then (⊥ : EReal) else _) = _
  rw [if_neg (by linarith)]

/-- `log (1 + eˣ)` on the reals. -/
def splus (x : ℝ) : ℝ := max x 0 + Real.log (1 + Real.exp (-(max x (-x))))

theorem lse_coe (x : ℝ) : lse (x : EReal) = ((splus x : ℝ) : EReal) := by
  unfold lse splus Ideal.log1p
  have e1 : max (x : EReal) (-(x : EReal)) = ((max x (-x) : ℝ) : EReal) := by
    rw [← EReal.coe_neg]; exact (EReal.coe_strictMono.monotone.map_max).symm
  have e2 : max (x : EReal) 0 = ((max x 0 : ℝ) : EReal) := by
    rw [← EReal.coe_zero]; exact (EReal.coe_strictMono.monotone.map_max).symm
  rw [e1, e2, ← EReal.coe_neg]
  show _ + Ideal.log (1 + ((Real.exp _ : ℝ) : EReal)) = _
  rw [log_one_add _ (Real.exp_pos _).le, ← EReal.coe_add]

theorem lse_top : lse ⊤ = ⊤ := by
  unfold lse
  simp only [EReal.neg_top, le_top, sup_of_le_left, bot_le]
  show ⊤ + Ideal.log1p 0 = ⊤
  have : Ideal.log1p 0 = 0 := by
    show Ideal.log (1 + ((0 : ℝ) : EReal)) = 0
    rw [log_one_add 0 le_rfl]; simp
  rw [this, add_zero]

theorem lse_bot : lse ⊥ = 0 := by
  unfold lse
  simp only [EReal.neg_bot, le_top, sup_of_le_right, bot_le, EReal.neg_top]
  show 0 + Ideal.log1p 0 = 0
  have : Ideal.log1p 0 = 0 := by
    show Ideal.log (1 + ((0 : ℝ) : EReal)) = 0
    rw [log_one_add 0 le_rfl]; simp
  rw [this, add_zero]

theorem splus_nonneg (x : ℝ) : 0 ≤ splus x := by
  unfold splus
  have := Real.log_nonneg (x := 1 + Real.exp (-(max x (-x)))) (by linarith [Real.exp_pos (-(max x (-x)))])
  have := le_max_right x 0
  linarith

theorem splus_neg (x : ℝ) : splus (-x) = splus x - x := by
  unfold splus
  rw [neg_neg, max_comm (-x) x]
  rcases le_total x 0 with h | h
  · rw [max_eq_right h, max_eq_left (by linarith : (0 : ℝ) ≤ -x)]; ring
  · rw [max_eq_left h, max_eq_right (by linarith : -x ≤ (0 : ℝ))]; ring

theorem lse_nonneg (x : EReal) : 0 ≤ lse x := by
  induction x with
  | bot => rw [lse_bot]
  | top => rw [lse_top]; exact le_top
  | coe r => rw [lse_coe]; exact EReal.coe_nonneg.2 (splus_nonneg r)

/-- The base-2 soft plus of a score rescaled to base 2 is the base-e one rescaled, the infinities included. -/
theorem sp2_mul (x : EReal) :
    sp2 (x * (((Real.log 2)⁻¹ : ℝ) : EReal)) = lse x * (((Real.log 2)⁻¹ : ℝ) : EReal) := by
  have hp : (0 : ℝ) < (Real.log 2)⁻¹ := inv_pos.2 log_two_pos
  have h0 : Ideal.log (1 + 0) = 0 := by
    have := log_one_add 0 le_rfl
    simpa using this
  induction x with
  | bot =>
    rw [EReal.bot_mul_coe_of_pos hp, lse_bot, zero_mul]
    unfold sp2
    have : Ideal.exp2 (min ⊥ (0 - ⊥)) = 0 := by rw [min_eq_left bot_le]; rfl
    rw [this, h0]; simp
  | top =>
    rw [EReal.top_mul_coe_of_pos hp, lse_top, EReal.top_mul_coe_of_pos hp]
    unfold sp2
    have : Ideal.exp2 (min ⊤ (0 - ⊤)) = 0 := by
      rw [zero_sub, EReal.neg_top, min_eq_right bot_le]; rfl
    rw [this, h0]; simp
  | coe r =>
    rw [← EReal.coe_mul, lse_coe]
    unfold sp2
    have e1 : min ((r * (Real.log 2)⁻¹ : ℝ) : EReal) (0 - ((r * (Real.log 2)⁻¹ : ℝ) : EReal))
        = ((-(max r (-r)) * (Real.log 2)⁻¹ : ℝ) : EReal) := by
      rw [zero_sub, ← EReal.coe_neg, ← EReal.coe_strictMono.monotone.map_min]
      congr 1
      rcases le_total r 0 with h | h
      · rw [max_eq_right (by linarith : r ≤ -r), min_eq_left]
        · ring
        · nlinarith
      · rw [max_eq_left (by linarith : -r ≤ r), min_eq_right]
        · ring
        · nlinarith
    have e2 : max ((r * (Real.log 2)⁻¹ : ℝ) : EReal) 0 = ((max r 0 * (Real.log 2)⁻¹ : ℝ) : EReal) := by
      rw [← EReal.coe_zero, ← EReal.coe_strictMono.monotone.map_max]
      congr 1
      rcases le_total r 0 with h | h
      · rw [max_eq_right h, max_eq_right (by nlinarith)]; ring
      · rw [max_eq_left h, max_eq_left (by positivity)]
    rw [e1, e2, exp2_coe_div, log_one_add _ (Real.exp_pos _).le, ← EReal.coe_mul, ← EReal.coe_add, ← EReal.coe_mul]
    unfold splus
    congr 1
    ring

theorem sp2_nonneg_mul (x : EReal) : 0 ≤ sp2 (x * (((Real.log 2)⁻¹ : ℝ) : EReal)) := by
  rw [sp2_mul]
  exact mul_nonneg (lse_nonneg x) (EReal.coe_nonneg.2 (inv_pos.2 log_two_pos).le)

/-! ## Stick breaking -/

/-- The sum of the base-2 soft pluses of the scores `Z` at the keys from `a` to `b` that lie before row `R`. -/
def later2 (R : ℕ) (Z : ℕ → EReal) (a b : ℕ) : EReal := ∑ c ∈ Finset.Ico a b, if c < R then sp2 (Z c) else 0

/-- The kernel's weight of key `k` for row `R`: two exponents subtracted one after the other, the rest of the key
    tile that ends at `e`, and the tiles after it up to `n`. -/
def stick2 (R : ℕ) (Z : ℕ → EReal) (n e k : ℕ) : EReal :=
  if k < R then Ideal.exp2 (Z k - later2 R Z k e - later2 R Z e n) else 0

/-- The logarithm of what key `c` leaves over for row `R`. -/
def keep (R : ℕ) (x : ℕ → EReal) (c : ℕ) : EReal := if c < R then -(lse (- -(x c))) else 0

/-- The reference's weight of key `k` for row `R` over `n` keys. -/
def stick (R : ℕ) (x : ℕ → EReal) (n k : ℕ) : EReal :=
  if k < R then Ideal.exp (-(lse (-(x k))) + (∑ c ∈ Finset.Ico k n, keep R x c) - keep R x k) else 0

/-- Two nonnegative extended reals subtracted one after the other are their sum subtracted. -/
theorem sub_sub_nonneg (a : EReal) {b c : EReal} (hb : 0 ≤ b) (hc : 0 ≤ c) : a - b - c = a - (b + c) := by
  have hb' : b ≠ ⊥ := fun h => absurd hb (by rw [h]; exact not_le.2 EReal.bot_lt_zero)
  have hc' : c ≠ ⊥ := fun h => absurd hc (by rw [h]; exact not_le.2 EReal.bot_lt_zero)
  rw [sub_eq_add_neg, sub_eq_add_neg, sub_eq_add_neg a, EReal.neg_add (.inl hb') (.inr hc'), sub_eq_add_neg, add_assoc]

/-- One weight in base 2 is the weight in base e: `x` the key's score, `r ≥ 0` the sum of the later soft pluses. -/
theorem stick_term (x r : EReal) (hr : 0 ≤ r) :
    Ideal.exp2 (x * (((Real.log 2)⁻¹ : ℝ) : EReal) - (lse x + r) * (((Real.log 2)⁻¹ : ℝ) : EReal))
      = Ideal.exp (-(lse (-x)) + -(lse x + r) - -(lse x)) := by
  have hp : (0 : ℝ) < (Real.log 2)⁻¹ := inv_pos.2 log_two_pos
  have hb : r ≠ ⊥ := fun h => absurd hr (by rw [h]; exact not_le.2 EReal.bot_lt_zero)
  induction x with
  | bot =>
    rw [EReal.bot_mul_coe_of_pos hp, lse_bot, EReal.neg_bot, lse_top, EReal.neg_top, EReal.bot_sub, EReal.bot_add,
      EReal.bot_sub]; rfl
  | top =>
    rw [lse_top, EReal.top_add_of_ne_bot hb, EReal.top_mul_coe_of_pos hp, EReal.neg_top, lse_bot, neg_zero, zero_add,
      EReal.bot_sub, EReal.sub_top]; rfl
  | coe s =>
    induction r with
    | bot => exact absurd rfl hb
    | top =>
      rw [← EReal.coe_neg, lse_coe, lse_coe, EReal.coe_add_top, EReal.top_mul_coe_of_pos hp, EReal.sub_top, EReal.neg_top,
        EReal.add_bot, EReal.bot_sub]; rfl
    | coe t =>
      rw [← EReal.coe_neg, lse_coe, lse_coe, ← EReal.coe_add, ← EReal.coe_mul, ← EReal.coe_mul, ← EReal.coe_neg,
        ← EReal.coe_neg, ← EReal.coe_neg, ← EReal.coe_add, ← EReal.coe_sub, ← EReal.coe_sub]
      have e : s * (Real.log 2)⁻¹ - (splus s + t) * (Real.log 2)⁻¹ = (s - splus s - t) * (Real.log 2)⁻¹ := by ring
      rw [e, exp2_coe_div]
      show _ = ((Real.exp _ : ℝ) : EReal)
      rw [splus_neg]
      congr 2
      ring

/-- The kernel's weight is the reference's: the key `k`, its tile's end `e`, the end `m` of the keys the row's block
    looks at, and the `n` keys there are. -/
theorem stick2_eq (R : ℕ) (x : ℕ → EReal) (n m e k : ℕ) (hke : k < e) (hem : e ≤ m) (hmn : m ≤ n) (hR : R ≤ m) :
    stick2 R (fun c => x c * (((Real.log 2)⁻¹ : ℝ) : EReal)) m e k = stick R x n k := by
  unfold stick2 stick
  by_cases hk : k < R
  · rw [if_pos hk, if_pos hk]
    have hn : ∀ c, 0 ≤ (if c < R then sp2 (x c * (((Real.log 2)⁻¹ : ℝ) : EReal)) else 0) := fun c => by
      split
      · exact sp2_nonneg_mul _
      · exact le_rfl
    unfold later2
    dsimp only
    rw [sub_sub_nonneg _ (Finset.sum_nonneg fun c _ => hn c) (Finset.sum_nonneg fun c _ => hn c),
      Finset.sum_Ico_consecutive _ hke.le hem]
    have hL : ∀ c, 0 ≤ (if c < R then lse (x c) else 0) := fun c => by
      split
      · exact lse_nonneg _
      · exact le_rfl
    have e1 : (∑ c ∈ Finset.Ico k m, if c < R then sp2 (x c * (((Real.log 2)⁻¹ : ℝ) : EReal)) else 0)
        = (∑ c ∈ Finset.Ico k m, if c < R then lse (x c) else 0) * (((Real.log 2)⁻¹ : ℝ) : EReal) := by
      rw [sum_mul_const _ _ (inv_pos.2 log_two_pos).le]
      refine Finset.sum_congr rfl fun c _ => ?_
      split
      · exact sp2_mul _
      · rw [zero_mul]
    have e2 : (∑ c ∈ Finset.Ico k n, keep R x c) = -(∑ c ∈ Finset.Ico k m, if c < R then lse (x c) else 0) := by
      rw [neg_sum_nonneg _ _ hL, ← Finset.sum_Ico_consecutive (fun c => keep R x c) (hke.le.trans hem) hmn]
      have : ∑ c ∈ Finset.Ico m n, keep R x c = 0 := by
        refine Finset.sum_eq_zero fun c hc => ?_
        unfold keep
        rw [if_neg (by have := (Finset.mem_Ico.1 hc).1; omega)]
      rw [this, add_zero]
      refine Finset.sum_congr rfl fun c _ => ?_
      unfold keep
      split
      · rw [neg_neg]
      · rw [neg_zero]
    have e3 : keep R x k = -(lse (x k)) := by unfold keep; rw [if_pos hk, neg_neg]
    rw [e1, e2, e3, Finset.sum_eq_sum_Ico_succ_bot (by omega : k < m), if_pos hk]
    exact stick_term _ _ (Finset.sum_nonneg fun c _ => hL c)
  · rw [if_neg hk, if_neg hk]

/-! ## Softmax -/

/-- A score where the key is visible and minus infinity elsewhere. -/
def masked (vis : ℕ → Prop) [DecidablePred vis] (x : ℕ → EReal) (k : ℕ) : EReal := if vis k then x k else ⊥

/-- The greatest of the scores of the first `n` keys, as a reduction from minus infinity states it. -/
def greatest (n : ℕ) (x : ℕ → EReal) : EReal := (Finset.univ : Finset (Fin n)).fold max ⊥ fun k => x k.val

theorem greatest_eq (n : ℕ) (x : ℕ → EReal) : greatest n x = (Finset.range n).sup x := by
  unfold greatest
  have : (Finset.univ : Finset (Fin n)).fold max ⊥ (fun k => x k.val) = Finset.univ.sup (fun k : Fin n => x k.val) := rfl
  rw [this]
  apply le_antisymm
  · exact Finset.sup_le fun k _ => Finset.le_sup (f := x) (Finset.mem_range.2 k.isLt)
  · exact Finset.sup_le fun k hk => Finset.le_sup (f := fun k : Fin n => x k.val) (Finset.mem_univ (⟨k, Finset.mem_range.1 hk⟩ : Fin n))

/-- The greatest of masked real scores over a range that holds a visible key is a real. -/
theorem greatest_real (n : ℕ) (vis : ℕ → Prop) [DecidablePred vis] (y : ℕ → ℝ) (k0 : ℕ) (h0 : k0 < n) (hv : vis k0) :
    ∃ M : ℝ, greatest n (masked vis fun k => (y k : EReal)) = (M : EReal) := by
  rw [greatest_eq]
  have hlt : (Finset.range n).sup (masked vis fun k => (y k : EReal)) < ⊤ := by
    rw [Finset.sup_lt_iff bot_lt_top]
    intro k _
    unfold masked
    split
    · exact EReal.coe_lt_top _
    · exact bot_lt_top
  have hgt : ⊥ < (Finset.range n).sup (masked vis fun k => (y k : EReal)) := by
    refine lt_of_lt_of_le ?_ (Finset.le_sup (Finset.mem_range.2 h0))
    unfold masked
    rw [if_pos hv]
    exact EReal.bot_lt_coe _
  exact ⟨_, (EReal.coe_toReal hlt.ne hgt.ne').symm⟩

/-- Keys past the first `m` that are not visible do not change the greatest. -/
theorem greatest_extend (m n : ℕ) (hmn : m ≤ n) (vis : ℕ → Prop) [DecidablePred vis] (x : ℕ → EReal)
    (hv : ∀ k, m ≤ k → ¬vis k) : greatest n (masked vis x) = greatest m (masked vis x) := by
  rw [greatest_eq, greatest_eq]
  apply le_antisymm
  · refine Finset.sup_le fun k _ => ?_
    by_cases h : k < m
    · exact Finset.le_sup (Finset.mem_range.2 h)
    · unfold masked; rw [if_neg (hv k (by omega))]; exact bot_le
  · exact Finset.sup_mono (Finset.range_mono hmn)

/-- Rescaling the real scores by a positive factor rescales the greatest. -/
theorem greatest_scale (n : ℕ) (vis : ℕ → Prop) [DecidablePred vis] (y : ℕ → ℝ) (c : ℝ) (hc : 0 < c) (M : ℝ)
    (k0 : ℕ) (h0 : k0 < n) (hv : vis k0)
    (hM : greatest n (masked vis fun k => (y k : EReal)) = (M : EReal)) :
    greatest n (masked vis fun k => ((y k * c : ℝ) : EReal)) = ((M * c : ℝ) : EReal) := by
  rw [greatest_eq] at hM ⊢
  apply le_antisymm
  · refine Finset.sup_le fun k hk => ?_
    have := Finset.le_sup (f := masked vis fun k => (y k : EReal)) hk
    rw [hM] at this
    unfold masked at this ⊢
    split
    · rename_i h
      rw [if_pos h] at this
      exact EReal.coe_le_coe_iff.2 (mul_le_mul_of_nonneg_right (EReal.coe_le_coe_iff.1 this) hc.le)
    · exact bot_le
  · obtain ⟨k, hk, hk'⟩ := Finset.exists_mem_eq_sup (Finset.range n) ⟨k0, Finset.mem_range.2 h0⟩ (masked vis fun k => (y k : EReal))
    rw [hM] at hk'
    refine le_trans (le_of_eq ?_) (Finset.le_sup hk)
    unfold masked at hk' ⊢
    split at hk'
    · rw [if_pos (by assumption)]
      rw [EReal.coe_eq_coe_iff.1 hk']
    · exact absurd hk' (EReal.coe_ne_bot _)

/-- The kernel's row of latent attention over the first `n` keys: base-2 exponentials, the values' sum divided by
    the exponentials' own sum at the end. -/
def soft2 (n : ℕ) (x : ℕ → EReal) (v : ℕ → EReal) : EReal :=
  Ideal.div (∑ k : Fin n, Ideal.exp2 (x k.val - greatest n x) * v k.val) (∑ k : Fin n, Ideal.exp2 (x k.val - greatest n x) * 1)

/-- The reference's row: the softmax of the scores, each probability times its value. -/
def soft (n : ℕ) (x : ℕ → EReal) (v : ℕ → EReal) : EReal :=
  ∑ k : Fin n, Ideal.div (Ideal.exp (x k.val - max ⊥ (greatest n x))) (0 + ∑ j : Fin n, Ideal.exp (x j.val - max ⊥ (greatest n x))) * v k.val

/-- The two rows agree at real scores, the values being any extended reals, when a visible key lies among the first
    `m` and none past them. -/
theorem soft2_eq (m n : ℕ) (hmn : m ≤ n) (vis : ℕ → Prop) [DecidablePred vis] (y : ℕ → ℝ) (v : ℕ → EReal)
    (k0 : ℕ) (h0 : k0 < m) (hv0 : vis k0) (hv : ∀ k, m ≤ k → ¬vis k) :
    soft2 m (masked vis fun k => ((y k * (Real.log 2)⁻¹ : ℝ) : EReal)) v = soft n (masked vis fun k => (y k : EReal)) v := by
  obtain ⟨M, hM⟩ := greatest_real m vis y k0 h0 hv0
  have hp : (0 : ℝ) < (Real.log 2)⁻¹ := inv_pos.2 log_two_pos
  unfold soft2 soft
  rw [greatest_extend m n hmn vis _ hv, hM, greatest_scale m vis y _ hp M k0 h0 hv0 hM, max_eq_right bot_le]
  set e : ℕ → ℝ := fun k => if vis k then Real.exp (y k - M) else 0 with he
  have e1 : ∀ k, Ideal.exp2 (masked vis (fun k => ((y k * (Real.log 2)⁻¹ : ℝ) : EReal)) k - ((M * (Real.log 2)⁻¹ : ℝ) : EReal)) = (e k : EReal) := by
    intro k
    simp only [he, masked]
    split
    · rw [← EReal.coe_sub, ← sub_mul, exp2_coe_div]
    · rw [EReal.bot_sub]; rfl
  have e2 : ∀ k, Ideal.exp (masked vis (fun k => (y k : EReal)) k - (M : EReal)) = (e k : EReal) := by
    intro k
    simp only [he, masked]
    split
    · rw [← EReal.coe_sub]; rfl
    · rw [EReal.bot_sub]; rfl
  simp only [e1, e2, mul_one, zero_add]
  have e0 : ∀ k, 0 ≤ e k := fun k => by
    simp only [he]; split
    · exact (Real.exp_pos _).le
    · exact le_rfl
  have ez : ∀ k, m ≤ k → e k = 0 := fun k hk => by simp only [he]; rw [if_neg (hv k hk)]
  have cut : ∀ f : ℕ → EReal, (∀ k, m ≤ k → f k = 0) → ∑ k : Fin n, f k.val = ∑ k : Fin m, f k.val := by
    intro f hf
    rw [Fin.sum_univ_eq_sum_range f n, Fin.sum_univ_eq_sum_range f m]
    exact (Finset.sum_subset (Finset.range_mono hmn) fun k _ hk => hf k (by simpa using hk)).symm
  rw [cut (fun k => (e k : EReal)) fun k hk => by rw [ez k hk]; rfl, ← coe_sum Finset.univ fun k : Fin m => e k.val]
  set L : ℝ := ∑ k : Fin m, e k.val with hLdef
  have hL : 0 < L := by
    refine lt_of_lt_of_le ?_ (Finset.single_le_sum (f := fun k : Fin m => e k.val) (fun k _ => e0 k.val) (Finset.mem_univ ⟨k0, h0⟩))
    simp only [he]
    rw [if_pos hv0]
    exact Real.exp_pos _
  have hL0 : (L : EReal) ≠ 0 := fun h => hL.ne' (EReal.coe_eq_zero.1 h)
  have hdiv : ∀ a : EReal, Ideal.div a (L : EReal) = a * ((L⁻¹ : ℝ) : EReal) := fun a => by
    unfold Ideal.div
    rw [if_neg hL0, EReal.coe_inv]
  simp only [hdiv]
  rw [cut (fun k => (e k : EReal) * ((L⁻¹ : ℝ) : EReal) * v k) fun k hk => by rw [ez k hk]; simp,
    sum_mul_const _ _ (inv_pos.2 hL).le]
  refine Finset.sum_congr rfl fun k _ => ?_
  rw [mul_right_comm]

end Cert.Attn
-- ==== Proof.Tiles.lean ====
/- One head's rows of the two attentions over a block of 512 queries, as functions of the loaded blocks, in the order the
   kernel computes them, and their values at an index: the row of latent attention is `soft2`, the tiles of
   stick-breaking attention are `stick2`. The number of keys stays a variable. -/
module

public import proofs.«01_k».proof.Proof.Maths
public import Idealize.ShloMosaic.Lib.ValueLayout
public import Idealize.ShloMosaic.Lib.ValueLayoutCasts
public import Idealize.ShloMosaic.Lib.MatmulPlain
public import Idealize.ShloMosaic.Lib.KernelVsHost
public import Idealize.ShloMosaic.Lib.Pointwise.SelectCore

@[expose] public section

set_option maxRecDepth 16384

noncomputable section

namespace Cert.Attn

open Idealize.ShloMosaic hiding ix2 truncf_apply
open Idealize.ShloMosaic.ValueIdx
open scoped BigOperators

/-- A matrix of extended reals. -/
abbrev Mat (a b : ℕ) (φ : FTy) := FVec Ideal (⟨2, ![a, b]⟩ : Shape) φ

/-- The word of one in single precision is one. -/
theorem one_word : (Scalar.ofBits .f32 0x3F800000#32 : Ideal .f32) = (1 : EReal) := by
  show Ideal.ofBits .f32 0x3F800000#32 = 1
  simp [Ideal.ofBits, Ideal.ieee, -EReal.coe_mul]; norm_num

/-- The word of zero in single precision is zero. -/
theorem zero_word : (Scalar.ofBits .f32 0x00000000#32 : Ideal .f32) = (0 : EReal) := Ideal.ofBits_zero_f32

/-- The word of zero in half-width precision is zero. -/
theorem zero_half : (Scalar.ofBits .bf16 0x0000#16 : Ideal .bf16) = (0 : EReal) := by
  show Ideal.ofBits .bf16 0x0000#16 = 0
  simp [Ideal.ofBits, Ideal.ieee]

/-- The word of minus infinity. -/
theorem bot_word : Ideal.ofBits .f32 0xFF800000#32 = (⊥ : EReal) := by
  simp [Ideal.ofBits, Ideal.ieee]

/-! ## Side by side -/

section Concat

variable {α : Type} {n : ℕ}

/-- A tile of 256 columns with its shape beside it. -/
abbrev tile (x : (⟨2, ![512, 256]⟩ : Shape).Idx → α) : (s : Shape) × (s.Idx → α) := ⟨⟨2, ![512, 256]⟩, x⟩

/-- Tiles of 256 columns side by side: when tile `i` holds the columns of `A` from `base + 256 i`, the row reads `A`. -/
theorem tiles_at (r : Fin 512) (A : ℕ → α) : ∀ (xs : List ((⟨2, ![512, 256]⟩ : Shape).Idx → α)) (base : ℕ)
    (_ : ∀ i (hi : i < xs.length) (c : Fin 256), xs[i] (ix2 r c) = A (base + 256 * i + c.val))
    (hs : ∀ s' ∈ (xs.map tile).map (·.1), s'.FitsOff (⟨2, ![512, n]⟩ : Shape) 1) (j : (⟨2, ![512, n]⟩ : Shape).Idx)
    (_ : (j 0).val = r.val) (c : ℕ) (hc : c < (axisSizes (⟨2, ![512, n]⟩ : Shape) 1 (xs.map tile)).sum),
    concatenateAt (⟨2, ![512, n]⟩ : Shape) 1 j (xs.map tile) hs c hc = A (base + c)
  | [], _, _, _, _, _, c, hc => absurd hc (by simp [axisSizes])
  | [x], base, hx, hs, j, hj, c, hc => by
    have hlt : c < 256 := by simpa [axisSizes] using hc
    refine (concatenateAt_singleton 1 j x hs c hc).trans ?_
    have := hx 0 (by simp) ⟨c, hlt⟩
    simp only [List.getElem_cons_zero, Nat.mul_zero, Nat.add_zero] at this
    refine (congrArg x (funext fun b => ?_)).trans this
    match b with
    | ⟨0, _⟩ => exact Fin.ext hj
    | ⟨1, _⟩ => rfl
  | x :: y :: xs, base, hx, hs, j, hj, c, hc => by
    refine (concatenateAt_cons 1 j x (tile y) (xs.map tile) hs c hc).trans ?_
    by_cases hlt : c < 256
    · refine (dif_pos hlt).trans ?_
      have := hx 0 (by simp) ⟨c, hlt⟩
      simp only [List.getElem_cons_zero, Nat.mul_zero, Nat.add_zero] at this
      refine (congrArg x (funext fun b => ?_)).trans this
      match b with
      | ⟨0, _⟩ => exact Fin.ext hj
      | ⟨1, _⟩ => rfl
    · refine (dif_neg hlt).trans ?_
      refine (tiles_at r A (y :: xs) (base + 256) (fun i hi d => ?_) _ j hj _ _).trans ?_
      · have := hx (i + 1) (by simpa using hi) d
        simp only [List.getElem_cons_succ] at this
        rw [this]; congr 1; omega
      · show A (base + 256 + (c - 256)) = _
        congr 1; omega

/-- At least two tiles of 256 columns fit side by side into a matrix of as many columns. -/
theorem tiles_fit (xs : List ((⟨2, ![512, 256]⟩ : Shape).Idx → α)) (h2 : 2 ≤ xs.length) (hn : 256 * xs.length = n) :
    Shape.Concatenates ((xs.map tile).map (·.1)) (⟨2, ![512, n]⟩ : Shape) 1 := by
  refine ⟨by simpa using h2, fun s hs => ?_, ?_⟩
  · simp only [List.map_map, List.mem_map, Function.comp] at hs
    obtain ⟨x, _, rfl⟩ := hs
    refine ⟨rfl, fun b hb => ?_⟩
    match b with
    | ⟨0, _⟩ => rfl
    | ⟨1, _⟩ => exact absurd rfl hb
  · have : ((xs.map tile).map (·.1)).map (fun s : Shape => if h : s.rank = (⟨2, ![512, n]⟩ : Shape).rank then s.size ((1 : Fin 2).cast h.symm) else 0)
        = xs.map fun _ => 256 := by
      simp only [List.map_map]; rfl
    refine (congrArg List.sum this).trans ?_
    simp only [List.map_const', List.sum_replicate, smul_eq_mul]
    show _ = n
    omega

/-- Two blocks of 256 rows one above the other. -/
theorem stack_apply {b : ℕ} (x y : (⟨2, ![256, b]⟩ : Shape).Idx → α)
    (h : Shape.Concatenates [(⟨2, ![256, b]⟩ : Shape), ⟨2, ![256, b]⟩] ⟨2, ![512, b]⟩ 0) (r : Fin 512) (c : Fin b) :
    concatenate (⟨2, ![512, b]⟩ : Shape) 0 [⟨⟨2, ![256, b]⟩, x⟩, ⟨⟨2, ![256, b]⟩, y⟩] h (ix2 r c)
      = if hr : r.val < 256 then x (ix2 ⟨r.val, hr⟩ c) else y (ix2 ⟨r.val - 256, by omega⟩ c) := by
  by_cases hr : r.val < 256
  · rw [dif_pos hr]
    refine concatenate_pair_apply_left (t := (⟨2, ![512, b]⟩ : Shape)) (s₁ := (⟨2, ![256, b]⟩ : Shape)) 0 x y h _ rfl _ fun a => ?_
    match a with
    | ⟨0, _⟩ => rfl
    | ⟨1, _⟩ => rfl
  · rw [dif_neg hr]
    refine concatenate_pair_apply_right (t := (⟨2, ![512, b]⟩ : Shape)) (s₁ := (⟨2, ![256, b]⟩ : Shape)) 0 x y h _ rfl rfl _ (fun a ha => ?_) ?_
    · match a with
      | ⟨0, _⟩ => exact absurd rfl ha
      | ⟨1, _⟩ => rfl
    · show r.val - 256 + 256 = r.val; omega

/-- Two blocks of 512 rows side by side. -/
theorem beside_apply {a b : ℕ} (x : (⟨2, ![512, a]⟩ : Shape).Idx → α) (y : (⟨2, ![512, b]⟩ : Shape).Idx → α)
    (h : Shape.Concatenates [(⟨2, ![512, a]⟩ : Shape), ⟨2, ![512, b]⟩] ⟨2, ![512, n]⟩ 1) (hn : a + b = n) (r : Fin 512) (c : Fin n) :
    concatenate (⟨2, ![512, n]⟩ : Shape) 1 [⟨⟨2, ![512, a]⟩, x⟩, ⟨⟨2, ![512, b]⟩, y⟩] h (ix2 r c)
      = if hc : c.val < a then x (ix2 r ⟨c.val, hc⟩) else y (ix2 r ⟨c.val - a, by omega⟩) := by
  by_cases hc : c.val < a
  · rw [dif_pos hc]
    refine concatenate_pair_apply_left (t := (⟨2, ![512, n]⟩ : Shape)) (s₁ := (⟨2, ![512, a]⟩ : Shape)) 1 x y h _ rfl _ fun d => ?_
    match d with
    | ⟨0, _⟩ => rfl
    | ⟨1, _⟩ => rfl
  · rw [dif_neg hc]
    refine concatenate_pair_apply_right (t := (⟨2, ![512, n]⟩ : Shape)) (s₁ := (⟨2, ![512, a]⟩ : Shape)) 1 x y h _ rfl rfl _ (fun d hd => ?_) ?_
    · match d with
      | ⟨0, _⟩ => rfl
      | ⟨1, _⟩ => exact absurd rfl hd
    · show c.val - a + a = c.val; omega

end Concat

/-! ## Stick-breaking attention, one head's rows over one block of queries -/

section Stick

variable {m n : ℕ}

/-- The kernel's base-2 soft plus of a tile. -/
def splus2 (L : Ideal .f32) (z : Mat m 256 .f32) : Mat m 256 .f32 :=
  addf (maximumf z (broadcast _ (Scalar.ofBits .f32 0x00000000#32)))
    (mulf (log (addf (broadcast _ (Scalar.ofBits .f32 0x3F800000#32))
      (exp2 (minimumf z (subf (broadcast _ (Scalar.ofBits .f32 0x00000000#32)) z))))) (broadcast _ L))

/-- At an index it is `sp2`. -/
theorem splus2_apply (z : Mat m 256 .f32) (j : (⟨2, ![m, 256]⟩ : Shape).Idx) :
    splus2 (((Real.log 2)⁻¹ : ℝ) : EReal) z j = sp2 (z j) := by
  show max (z j) (Scalar.ofBits .f32 0x00000000#32 : Ideal .f32) + Ideal.log ((Scalar.ofBits .f32 0x3F800000#32 : Ideal .f32)
    + Ideal.exp2 (min (z j) ((Scalar.ofBits .f32 0x00000000#32 : Ideal .f32) - z j))) * _ = _
  rw [one_word, zero_word]; rfl

/-- The square of ones on and below the diagonal. -/
def suffixOnes (h0 : (⟨2, ![256, 256]⟩ : Shape).Iotas .tc 32 [0]) (h1 : (⟨2, ![256, 256]⟩ : Shape).Iotas .tc 32 [1]) (hw : FTy.bf16.bits < FTy.f32.bits) :
    Mat 256 256 .bf16 :=
  truncf .bf16 (select (cmpi .sge (iota .tc (⟨2, ![256, 256]⟩ : Shape) 32 [0] h0) (iota .tc (⟨2, ![256, 256]⟩ : Shape) 32 [1] h1))
    (broadcast (⟨2, ![256, 256]⟩ : Shape) (Scalar.ofBits .f32 0x3F800000#32 : Ideal .f32))
    (broadcast (⟨2, ![256, 256]⟩ : Shape) (Scalar.ofBits .f32 0x00000000#32 : Ideal .f32))) hw

/-- A small word's signed number. -/
theorem word_int (a : ℕ) (ha : a < 4096) : (BitVec.ofNat 32 a).toInt = (a : ℤ) := by
  have h : (BitVec.ofNat 32 a).toNat = a := by rw [BitVec.toNat_ofNat]; exact Nat.mod_eq_of_lt (by omega)
  rw [BitVec.toInt_eq_toNat_cond, h, if_pos (by omega)]

/-- Signed comparison of two small words is comparison of their numbers. -/
theorem sle_small (a b : ℕ) (ha : a < 4096) (hb : b < 4096) : (BitVec.ofNat 32 a).sle (BitVec.ofNat 32 b) = decide (a ≤ b) := by
  unfold BitVec.sle; rw [word_int a ha, word_int b hb]; exact decide_eq_decide.2 (by omega)

/-- The same, strict. -/
theorem slt_small (a b : ℕ) (ha : a < 4096) (hb : b < 4096) : (BitVec.ofNat 32 a).slt (BitVec.ofNat 32 b) = decide (a < b) := by
  unfold BitVec.slt; rw [word_int a ha, word_int b hb]; exact decide_eq_decide.2 (by omega)

/-- A choice by a decided bit. -/
theorem select_decide {α : Type} (p : Prop) [Decidable p] (a b : α) :
    Scalar.select (BitVec.ofBool (decide p)) a b = if p then a else b := by
  by_cases h : p
  · simp only [h, decide_true, if_true]; rfl
  · simp only [h, decide_false, if_false]; rfl

/-- The row number along axis 0. -/
theorem iota0 {a b : ℕ} (h : (⟨2, ![a, b]⟩ : Shape).Iotas .tc 32 [0]) (r : Fin a) (c : Fin b) :
    iota .tc (⟨2, ![a, b]⟩ : Shape) 32 [0] h (ix2 r c) = BitVec.ofNat 32 r.val := by
  show BitVec.ofNat 32 (0 * a + r.val) = _
  rw [Nat.zero_mul, Nat.zero_add]

/-- The column number along axis 1. -/
theorem iota1 {a b : ℕ} (h : (⟨2, ![a, b]⟩ : Shape).Iotas .tc 32 [1]) (r : Fin a) (c : Fin b) :
    iota .tc (⟨2, ![a, b]⟩ : Shape) 32 [1] h (ix2 r c) = BitVec.ofNat 32 c.val := by
  show BitVec.ofNat 32 (0 * b + c.val) = _
  rw [Nat.zero_mul, Nat.zero_add]

/-- The square of ones at an index. -/
theorem suffixOnes_apply (h0 h1 hw) (k c : Fin 256) : suffixOnes h0 h1 hw (ix2 k c) = if c.val ≤ k.val then (1 : EReal) else 0 := by
  show Scalar.select (BitVec.ofBool ((iota .tc _ 32 [1] h1 (ix2 k c)).sle (iota .tc _ 32 [0] h0 (ix2 k c)))) (Scalar.ofBits .f32 0x3F800000#32 : Ideal .f32) (Scalar.ofBits .f32 0x00000000#32 : Ideal .f32) = _
  rw [iota0, iota1, sle_small _ _ (by omega) (by omega), select_decide, one_word, zero_word]

/-- The sums of a tile's rest, by the square of ones. -/
def suffixSum (ones : Mat 256 256 .bf16) (hw : FTy.bf16.bits < FTy.f32.bits) (p : Mat m 256 .f32) : Mat m 256 .f32 :=
  matmul (DotDims.plain m 256 256) none (truncf .bf16 p hw) ones (constant (⟨2, ![m, 256]⟩ : Shape) .f32 0x00000000#32)

/-- The sum over a tile's rest, when the tile holds `G` from `o`. -/
theorem suffixSum_apply (h0 h1 hw hw') (p : Mat m 256 .f32) (r : Fin m) (o : ℕ) (G : ℕ → EReal)
    (hp : ∀ c : Fin 256, p (ix2 r c) = G (o + c.val)) (c : Fin 256) :
    suffixSum (suffixOnes h0 h1 hw) hw' p (ix2 r c) = ∑ k ∈ Finset.Ico (o + c.val) (o + 256), G k := by
  unfold suffixSum
  refine (Ideal.matmul_plain_apply _ _ _ _ r c).trans ?_
  rw [constant_apply, Ideal.ofBits_zero_f32, zero_add]
  have : ∀ k : Fin 256, truncf .bf16 p hw' (ix2 r k) * suffixOnes h0 h1 hw (ix2 k c) = if c.val ≤ k.val then G (o + k.val) else 0 := fun k => by
    rw [truncf_apply, hp, suffixOnes_apply]; split_ifs <;> simp
  rw [Finset.sum_congr rfl fun k _ => this k, Fin.sum_univ_eq_sum_range (fun k => if c.val ≤ k then G (o + k) else 0) 256,
    ← Finset.sum_filter]
  have hI : Finset.Ico (o + c.val) (o + 256) = (Finset.Ico c.val 256).map (addLeftEmbedding o) := by
    rw [Finset.map_add_left_Ico]
  rw [hI, Finset.sum_map]
  refine Finset.sum_congr ?_ fun _ _ => rfl
  ext k; simp only [Finset.mem_filter, Finset.mem_range, Finset.mem_Ico]; omega

/-- The exponentials of a tile: the scores less the tile's rest less what comes after the tile. -/
def tileExp (hb : (⟨2, ![m, 1]⟩ : Shape).Broadcasts ⟨2, ![m, 256]⟩) (z s : Mat m 256 .f32) (later : Mat m 1 .f32) : Mat m 256 .f32 :=
  exp2 (subf (subf z s) (broadcastTo (⟨2, ![m, 256]⟩ : Shape) later hb))

/-- A column spread over a row. -/
theorem spread_apply {α : Type} {b : ℕ} (hm : m ≠ 1) (x : (⟨2, ![m, 1]⟩ : Shape).Idx → α) (h : (⟨2, ![m, 1]⟩ : Shape).Broadcasts ⟨2, ![m, b]⟩)
    (r : Fin m) (c : Fin b) : broadcastTo (⟨2, ![m, b]⟩ : Shape) x h (ix2 r c) = x (ix2 r 0) :=
  broadcastTo_apply x h _ _ fun a => by
    match a with
    | ⟨0, _⟩ => exact (if_neg hm).symm
    | ⟨1, _⟩ => exact (if_pos rfl).symm

theorem tileExp_apply (hm : m ≠ 1) (hb) (z s : Mat m 256 .f32) (later : Mat m 1 .f32) (r : Fin m) (c : Fin 256) :
    tileExp hb z s later (ix2 r c) = Ideal.exp2 (z (ix2 r c) - s (ix2 r c) - later (ix2 r 0)) := by
  show Ideal.exp2 (z (ix2 r c) - s (ix2 r c) - broadcastTo _ later hb (ix2 r c)) = _
  rw [spread_apply hm]

/-- The keys before the query's own place within a square on the diagonal. -/
def before (h0 : (⟨2, ![m, 256]⟩ : Shape).Iotas .tc 32 [0]) (h1 : (⟨2, ![m, 256]⟩ : Shape).Iotas .tc 32 [1]) : IVec (⟨2, ![m, 256]⟩ : Shape) 1 :=
  cmpi .slt (iota .tc (⟨2, ![m, 256]⟩ : Shape) 32 [1] h1) (iota .tc (⟨2, ![m, 256]⟩ : Shape) 32 [0] h0)

theorem before_select {α : Type} (hm : m ≤ 512) (h0 h1) (x y : (⟨2, ![m, 256]⟩ : Shape).Idx → α) (r : Fin m) (c : Fin 256) :
    select (before h0 h1) x y (ix2 r c) = if c.val < r.val then x (ix2 r c) else y (ix2 r c) := by
  show Scalar.select (BitVec.ofBool ((iota .tc _ 32 [1] h1 (ix2 r c)).slt (iota .tc _ 32 [0] h0 (ix2 r c)))) _ _ = _
  rw [iota0, iota1, slt_small _ _ (by omega) (by omega), select_decide]

/-- A tile's rest where some keys lie past the query. -/
def diagRest (L : Ideal .f32) (ones : Mat 256 256 .bf16) (hw : FTy.bf16.bits < FTy.f32.bits) (vis : IVec (⟨2, ![m, 256]⟩ : Shape) 1)
    (z : Mat m 256 .f32) : Mat m 256 .f32 :=
  suffixSum ones hw (select vis (splus2 L z) (broadcast (⟨2, ![m, 256]⟩ : Shape) (Scalar.ofBits .f32 0x00000000#32 : Ideal .f32)))

/-- A tile's rest where every key lies before the query. -/
def plainRest (L : Ideal .f32) (ones : Mat 256 256 .bf16) (hw : FTy.bf16.bits < FTy.f32.bits) (z : Mat m 256 .f32) : Mat m 256 .f32 :=
  suffixSum ones hw (splus2 L z)

/-- A tile's weights where some keys lie past the query. -/
def diagWeights (hw : FTy.bf16.bits < FTy.f32.bits) (hb : (⟨2, ![m, 1]⟩ : Shape).Broadcasts ⟨2, ![m, 256]⟩) (vis : IVec (⟨2, ![m, 256]⟩ : Shape) 1)
    (z s : Mat m 256 .f32) (later : Mat m 1 .f32) : Mat m 256 .bf16 :=
  truncf .bf16 (select vis (tileExp hb z s later) (broadcast (⟨2, ![m, 256]⟩ : Shape) (Scalar.ofBits .f32 0x00000000#32 : Ideal .f32))) hw

/-- A tile's weights where every key lies before the query. -/
def plainWeights (hw : FTy.bf16.bits < FTy.f32.bits) (hb : (⟨2, ![m, 1]⟩ : Shape).Broadcasts ⟨2, ![m, 256]⟩)
    (z s : Mat m 256 .f32) (later : Mat m 1 .f32) : Mat m 256 .bf16 :=
  truncf .bf16 (tileExp hb z s later) hw

/-- What of the base-2 soft plus counts for row `R`. -/
def part (R : ℕ) (Z : ℕ → EReal) (c : ℕ) : EReal := if c < R then sp2 (Z c) else 0

variable (h0 : (⟨2, ![256, 256]⟩ : Shape).Iotas .tc 32 [0]) (h1 : (⟨2, ![256, 256]⟩ : Shape).Iotas .tc 32 [1]) (hw : FTy.bf16.bits < FTy.f32.bits)

theorem diagRest_apply (hm : m ≤ 512) (hw') (i0 i1) (z : Mat m 256 .f32) (r : Fin m) (o R : ℕ) (Z : ℕ → EReal)
    (hR : R = o + r.val) (hz : ∀ c : Fin 256, z (ix2 r c) = Z (o + c.val)) (c : Fin 256) :
    diagRest (((Real.log 2)⁻¹ : ℝ) : EReal) (suffixOnes h0 h1 hw) hw' (before i0 i1) z (ix2 r c) = later2 R Z (o + c.val) (o + 256) := by
  refine suffixSum_apply _ _ _ _ _ r o (part R Z) (fun d => ?_) c
  rw [before_select hm, splus2_apply, broadcast_apply, zero_word, hz, part]
  exact if_congr (by omega) rfl rfl

theorem plainRest_apply (hw') (z : Mat m 256 .f32) (r : Fin m) (o R : ℕ) (Z : ℕ → EReal)
    (hR : o + 256 ≤ R) (hz : ∀ c : Fin 256, z (ix2 r c) = Z (o + c.val)) (c : Fin 256) :
    plainRest (((Real.log 2)⁻¹ : ℝ) : EReal) (suffixOnes h0 h1 hw) hw' z (ix2 r c) = later2 R Z (o + c.val) (o + 256) := by
  refine suffixSum_apply _ _ _ _ _ r o (part R Z) (fun d => ?_) c
  rw [splus2_apply, hz, part, if_pos (by omega)]

theorem diagWeights_apply (hm : m ≤ 512) (hm1 : m ≠ 1) (hw' hb i0 i1) (z s : Mat m 256 .f32) (later : Mat m 1 .f32) (r : Fin m) (o R k : ℕ) (Z : ℕ → EReal)
    (hR : R = o + r.val) (hz : ∀ c : Fin 256, z (ix2 r c) = Z (o + c.val))
    (hs : ∀ c : Fin 256, s (ix2 r c) = later2 R Z (o + c.val) (o + 256)) (hl : later (ix2 r 0) = later2 R Z (o + 256) k) (c : Fin 256) :
    diagWeights hw' hb (before i0 i1) z s later (ix2 r c) = stick2 R Z k (o + 256) (o + c.val) := by
  unfold diagWeights stick2
  rw [truncf_apply, before_select hm, tileExp_apply hm1, broadcast_apply, zero_word, hz, hs, hl]
  exact if_congr (by omega) rfl rfl

theorem plainWeights_apply (hm1 : m ≠ 1) (hw' hb) (z s : Mat m 256 .f32) (later : Mat m 1 .f32) (r : Fin m) (o R k : ℕ) (Z : ℕ → EReal)
    (hR : o + 256 ≤ R) (hz : ∀ c : Fin 256, z (ix2 r c) = Z (o + c.val))
    (hs : ∀ c : Fin 256, s (ix2 r c) = later2 R Z (o + c.val) (o + 256)) (hl : later (ix2 r 0) = later2 R Z (o + 256) k) (c : Fin 256) :
    plainWeights hw' hb z s later (ix2 r c) = stick2 R Z k (o + 256) (o + c.val) := by
  unfold plainWeights stick2
  rw [truncf_apply, tileExp_apply hm1, hz, hs, hl, if_pos (by omega)]

theorem later2_join (R : ℕ) (Z : ℕ → EReal) (a b c : ℕ) (hab : a ≤ b) (hbc : b ≤ c) : later2 R Z b c + later2 R Z a b = later2 R Z a c := by
  unfold later2; rw [add_comm]; exact Finset.sum_Ico_consecutive _ hab hbc

/-- The side facts of one head's rows over `n` keys. -/
structure StickFacts (n : ℕ) : Prop where
  hb : (⟨2, ![512, 1]⟩ : Shape).Broadcasts ⟨2, ![512, 256]⟩
  hb' : (⟨2, ![256, 1]⟩ : Shape).Broadcasts ⟨2, ![256, 256]⟩
  h0 : (⟨2, ![256, 256]⟩ : Shape).Iotas .tc 32 [0]
  h1 : (⟨2, ![256, 256]⟩ : Shape).Iotas .tc 32 [1]
  i0 : (⟨2, ![512, 256]⟩ : Shape).Iotas .tc 32 [0]
  i1 : (⟨2, ![512, 256]⟩ : Shape).Iotas .tc 32 [1]
  hw : FTy.bf16.bits < FTy.f32.bits
  cut : ∀ p : ℕ, 256 * p + 256 ≤ n → (⟨2, ![512, n]⟩ : Shape).Slices ![0, 256 * p] ⟨2, ![512, 256]⟩
  last : ∀ p : ℕ, 256 * p + 256 ≤ n → (⟨2, ![512, n]⟩ : Shape).Slices ![256, 256 * p] ⟨2, ![256, 256]⟩
  half : (⟨2, ![512, 1]⟩ : Shape).Slices ![256, 0] ⟨2, ![256, 1]⟩
  col : (⟨2, ![512, 256]⟩ : Shape).Slices ![0, 0] ⟨2, ![512, 1]⟩
  col' : (⟨2, ![256, 256]⟩ : Shape).Slices ![0, 0] ⟨2, ![256, 1]⟩
  stack : Shape.Concatenates [(⟨2, ![256, 256]⟩ : Shape), ⟨2, ![256, 256]⟩] ⟨2, ![512, 256]⟩ 0
  stack1 : Shape.Concatenates [(⟨2, ![256, 1]⟩ : Shape), ⟨2, ![256, 1]⟩] ⟨2, ![512, 1]⟩ 0

/-- They hold at every number of keys. -/
theorem stickFacts (n : ℕ) : StickFacts n where
  hb := by decide
  hb' := by decide
  h0 := by decide
  h1 := by decide
  i0 := by decide
  i1 := by decide
  hw := by decide
  cut p h := ⟨rfl, fun a => by match a with | ⟨0, _⟩ => exact le_refl 512 | ⟨1, _⟩ => exact h⟩
  last p h := ⟨rfl, fun a => by match a with | ⟨0, _⟩ => exact le_refl 512 | ⟨1, _⟩ => exact h⟩
  half := by decide
  col := by decide
  col' := by decide
  stack := by decide
  stack1 := by decide

variable (L : Ideal .f32) (z : Mat 512 n .f32) (hf : StickFacts n)

/-- The tiles before the diagonal, from the last one down, each put before the ones already made. -/
def plainTiles : (p : ℕ) → (256 * p + 256 ≤ n + 256) → Mat 512 1 .f32 → List (Mat 512 256 .bf16) → List (Mat 512 256 .bf16)
  | 0, _, _, acc => acc
  | p + 1, hp, later, acc =>
    let zj : Mat 512 256 .f32 := extractStridedSlice (⟨2, ![512, 256]⟩ : Shape) ![0, 256 * p] z (hf.cut p (by omega))
    let s := plainRest L (suffixOnes hf.h0 hf.h1 hf.hw) hf.hw zj
    plainTiles p (by omega) (addf later (extractStridedSlice (⟨2, ![512, 1]⟩ : Shape) ![0, 0] s hf.col))
      (plainWeights hf.hw hf.hb zj s later :: acc)

/-- The last tile's scores: the lower half of the rows. -/
def lastScores (p : ℕ) (hp : 256 * p + 512 ≤ n) : Mat 256 256 .f32 :=
  extractStridedSlice (⟨2, ![256, 256]⟩ : Shape) ![256, 256 * (p + 1)] z (hf.last (p + 1) (by omega))

/-- The last tile's rest. -/
def lastRest (p : ℕ) (hp : 256 * p + 512 ≤ n) : Mat 256 256 .f32 :=
  diagRest L (suffixOnes hf.h0 hf.h1 hf.hw) hf.hw (before hf.h0 hf.h1) (lastScores z hf p hp)

/-- The last tile's weights, the upper half of the rows zero. -/
def lastTile (p : ℕ) (hp : 256 * p + 512 ≤ n) : Mat 512 256 .bf16 :=
  concatenate (⟨2, ![512, 256]⟩ : Shape) 0
    [⟨⟨2, ![256, 256]⟩, broadcast (⟨2, ![256, 256]⟩ : Shape) (Scalar.ofBits .bf16 0x0000#16 : Ideal .bf16)⟩,
     ⟨⟨2, ![256, 256]⟩, diagWeights hf.hw hf.hb' (before hf.h0 hf.h1) (lastScores z hf p hp) (lastRest L z hf p hp)
      (extractStridedSlice (⟨2, ![256, 1]⟩ : Shape) ![256, 0] (broadcast (⟨2, ![512, 1]⟩ : Shape) (Scalar.ofBits .f32 0x00000000#32 : Ideal .f32)) hf.half)⟩] hf.stack

/-- What comes after the tile before the last. -/
def lastLater (p : ℕ) (hp : 256 * p + 512 ≤ n) : Mat 512 1 .f32 :=
  addf (broadcast (⟨2, ![512, 1]⟩ : Shape) (Scalar.ofBits .f32 0x00000000#32 : Ideal .f32) : Mat 512 1 .f32)
    (concatenate (⟨2, ![512, 1]⟩ : Shape) 0
      [⟨⟨2, ![256, 1]⟩, broadcast (⟨2, ![256, 1]⟩ : Shape) (Scalar.ofBits .f32 0x00000000#32 : Ideal .f32)⟩,
       ⟨⟨2, ![256, 1]⟩, extractStridedSlice (⟨2, ![256, 1]⟩ : Shape) ![0, 0] (lastRest L z hf p hp) hf.col'⟩] hf.stack1)

/-- The scores of the tile before the last. -/
def diagScores (p : ℕ) (hp : 256 * p + 512 ≤ n) : Mat 512 256 .f32 :=
  extractStridedSlice (⟨2, ![512, 256]⟩ : Shape) ![0, 256 * p] z (hf.cut p (by omega))

/-- Its rest. -/
def diagRest' (p : ℕ) (hp : 256 * p + 512 ≤ n) : Mat 512 256 .f32 :=
  diagRest L (suffixOnes hf.h0 hf.h1 hf.hw) hf.hw (before hf.i0 hf.i1) (diagScores z hf p hp)

/-- Its weights. -/
def diagTile (p : ℕ) (hp : 256 * p + 512 ≤ n) : Mat 512 256 .bf16 :=
  diagWeights hf.hw hf.hb (before hf.i0 hf.i1) (diagScores z hf p hp) (diagRest' L z hf p hp) (lastLater L z hf p hp)

/-- What comes after the tiles before the diagonal. -/
def diagLater (p : ℕ) (hp : 256 * p + 512 ≤ n) : Mat 512 1 .f32 :=
  addf (lastLater L z hf p hp) (extractStridedSlice (⟨2, ![512, 1]⟩ : Shape) ![0, 0] (diagRest' L z hf p hp) hf.col)

/-- All the tiles' weights, in order. -/
def allTiles (p : ℕ) (hp : 256 * p + 512 ≤ n) : List (Mat 512 256 .bf16) :=
  plainTiles L z hf p (by omega) (diagLater L z hf p hp) [diagTile L z hf p hp, lastTile L z hf p hp]

theorem plainTiles_length : ∀ (p : ℕ) (hp) (later) (acc), (plainTiles L z hf p hp later acc).length = p + acc.length
  | 0, _, _, acc => (Nat.zero_add _).symm
  | p + 1, _, _, acc => by rw [plainTiles, plainTiles_length p, List.length_cons]; omega

theorem allTiles_length (p : ℕ) (hp) : (allTiles L z hf p hp).length = p + 2 := plainTiles_length L z hf p _ _ _

/-- One head's rows: the tiles' weights side by side times the values. -/
def stickRow (p : ℕ) (hp : 256 * p + 512 = n) (v : Mat n 128 .bf16) : Mat 512 128 .f32 :=
  matmul (DotDims.plain 512 n 128) none
    (concatenate (⟨2, ![512, n]⟩ : Shape) 1 ((allTiles L z hf p hp.le).map tile)
      (tiles_fit _ (by rw [allTiles_length]; omega) (by rw [allTiles_length]; omega)) : Mat 512 n .bf16) v
    (constant (⟨2, ![512, 128]⟩ : Shape) .f32 0x00000000#32)

/-! ### Its value -/

/-- The weight of key `k`: the tile it lies in ends at the next multiple of 256. -/
def weight2 (R : ℕ) (Z : ℕ → EReal) (n k : ℕ) : EReal := stick2 R Z n (256 * (k / 256) + 256) k

theorem weight2_tile (R : ℕ) (Z : ℕ → EReal) (n p : ℕ) (c : Fin 256) :
    weight2 R Z n (256 * p + c.val) = stick2 R Z n (256 * p + 256) (256 * p + c.val) := by
  unfold weight2
  rw [show (256 * p + c.val) / 256 = p by omega]

variable (R : ℕ) (Z : ℕ → EReal)

/-- The tiles before the diagonal hold the weights. -/
theorem plainTiles_get (r : Fin 512) (hz : ∀ k (hk : k < n), z (ix2 r ⟨k, hk⟩) = Z k) :
    ∀ (p : ℕ) (hp) (later : Mat 512 1 .f32) (acc : List (Mat 512 256 .bf16)) (_ : 256 * p ≤ R) (_ : 256 * p ≤ n)
      (_ : later (ix2 r 0) = later2 R Z (256 * p) n)
      (_ : ∀ i (hi : i < acc.length) (c : Fin 256), acc[i] (ix2 r c) = weight2 R Z n (256 * p + 256 * i + c.val))
      (i : ℕ) (hi : i < (plainTiles (((Real.log 2)⁻¹ : ℝ) : EReal) z hf p hp later acc).length) (c : Fin 256),
      (plainTiles (((Real.log 2)⁻¹ : ℝ) : EReal) z hf p hp later acc)[i] (ix2 r c) = weight2 R Z n (256 * i + c.val)
  | 0, _, _, acc, _, _, _, hacc, i, hi, c => by
    have := hacc i hi c
    simp only [Nat.mul_zero, Nat.zero_add] at this
    exact this
  | p + 1, hp, later, acc, hR, hn, hl, hacc, i, hi, c => by
    have hzj : ∀ d : Fin 256, extractStridedSlice (⟨2, ![512, 256]⟩ : Shape) ![0, 256 * p] z (hf.cut p (by omega)) (ix2 r d) = Z (256 * p + d.val) := fun d =>
      (slice2_axis1_apply _ z _ r d ⟨256 * p + d.val, by omega⟩ rfl).trans (hz _ _)
    have hs := fun d => plainRest_apply hf.h0 hf.h1 hf.hw hf.hw _ r (256 * p) R Z (by omega) hzj d
    refine plainTiles_get r hz p _ _ _ (by omega) (by omega) ?_ ?_ i hi c
    · rw [addf_apply, hl, slice2_axis1_apply 0 _ _ r (0 : Fin 1) (0 : Fin 256) rfl, hs]
      exact later2_join R Z _ _ _ (by show 256 * p + 0 ≤ _; omega) hn
    · intro k hk d
      match k with
      | 0 =>
        refine (plainWeights_apply (by omega) hf.hw _ _ _ _ r (256 * p) R n Z (by omega) hzj hs hl d).trans ?_
        exact (weight2_tile R Z n p d).symm
      | k + 1 =>
        refine (hacc k (by simpa using hk) d).trans ?_
        congr 1; omega

section Last

variable (p : ℕ) (hp : 256 * p + 512 = n) (r : Fin 512) (hR : R = 256 * p + r.val) (hz : ∀ k (hk : k < n), z (ix2 r ⟨k, hk⟩) = Z k)
include hR hz

/-- The last tile's rest in the lower half of the rows. -/
theorem lastRest_apply (r' : Fin 256) (hr : r.val = 256 + r'.val) (c : Fin 256) :
    lastRest (((Real.log 2)⁻¹ : ℝ) : EReal) z hf p hp.le (ix2 r' c) = later2 R Z (256 * (p + 1) + c.val) (256 * (p + 1) + 256) := by
  refine diagRest_apply _ _ _ (by omega) _ _ _ _ r' (256 * (p + 1)) R Z (by omega) (fun d => ?_) c
  refine (extractStridedSlice_apply _ _ _ _ (ix2 r ⟨256 * (p + 1) + d.val, by omega⟩) fun a => ?_).trans (hz _ _)
  match a with
  | ⟨0, _⟩ => exact hr
  | ⟨1, _⟩ => rfl

/-- The last tile's weights. -/
theorem lastTile_apply (c : Fin 256) :
    lastTile (((Real.log 2)⁻¹ : ℝ) : EReal) z hf p hp.le (ix2 r c) = weight2 R Z n (256 * (p + 1) + c.val) := by
  rw [weight2_tile]
  unfold lastTile
  rw [stack_apply]
  split_ifs with hr
  · rw [broadcast_apply, zero_half]; unfold stick2; rw [if_neg (by omega)]
  · refine diagWeights_apply (r := ⟨r.val - 256, by omega⟩) (o := 256 * (p + 1)) (by omega) (by omega) _ _ _ _ _ _ _ R n Z (by show R = _ + (r.val - 256); omega) (fun d => ?_)
      (fun d => lastRest_apply z hf R Z p hp r hR hz _ (by show r.val = 256 + (r.val - 256); omega) d) ?_ c
    · refine (extractStridedSlice_apply _ _ _ _ (ix2 r ⟨256 * (p + 1) + d.val, by omega⟩) fun a => ?_).trans (hz _ _)
      match a with
      | ⟨0, _⟩ => show r.val = 256 + (r.val - 256); omega
      | ⟨1, _⟩ => rfl
    · rw [slice2_axis0_apply 256 _ _ _ _ r (by show r.val = 256 + (r.val - 256); omega), broadcast_apply, zero_word]
      unfold later2; rw [show 256 * (p + 1) + 256 = n by omega]; simp

/-- What comes after the tile before the last. -/
theorem lastLater_apply : lastLater (((Real.log 2)⁻¹ : ℝ) : EReal) z hf p hp.le (ix2 r 0) = later2 R Z (256 * (p + 1)) n := by
  unfold lastLater
  rw [addf_apply, broadcast_apply, zero_word, zero_add, stack_apply]
  split_ifs with hr
  · rw [broadcast_apply]; unfold later2; symm
    refine Finset.sum_eq_zero fun k hk => if_neg ?_
    have := Finset.mem_Ico.1 hk; omega
  · rw [slice2_axis1_apply 0 _ _ _ (0 : Fin 1) (0 : Fin 256) rfl, lastRest_apply z hf R Z p hp r hR hz _ (by show r.val = 256 + (r.val - 256); omega)]
    show later2 R Z (256 * (p + 1) + 0) _ = _
    rw [Nat.add_zero]; congr 1

/-- The rest of the tile before the last. -/
theorem diagRest'_apply (c : Fin 256) :
    diagRest' (((Real.log 2)⁻¹ : ℝ) : EReal) z hf p hp.le (ix2 r c) = later2 R Z (256 * p + c.val) (256 * p + 256) := by
  refine diagRest_apply _ _ _ (by omega) _ _ _ _ r (256 * p) R Z hR (fun d => ?_) c
  exact (slice2_axis1_apply _ z _ r d ⟨256 * p + d.val, by omega⟩ rfl).trans (hz _ _)

/-- The weights of the tile before the last. -/
theorem diagTile_apply (c : Fin 256) :
    diagTile (((Real.log 2)⁻¹ : ℝ) : EReal) z hf p hp.le (ix2 r c) = weight2 R Z n (256 * p + c.val) := by
  rw [weight2_tile]
  refine diagWeights_apply (by omega) (by omega) _ _ _ _ _ _ _ r (256 * p) R n Z hR (fun d => ?_)
    (fun d => diagRest'_apply z hf R Z p hp r hR hz d) ?_ c
  · exact (slice2_axis1_apply _ z _ r d ⟨256 * p + d.val, by omega⟩ rfl).trans (hz _ _)
  · exact lastLater_apply z hf R Z p hp r hR hz

theorem diagLater_apply : diagLater (((Real.log 2)⁻¹ : ℝ) : EReal) z hf p hp.le (ix2 r 0) = later2 R Z (256 * p) n := by
  unfold diagLater
  rw [addf_apply, lastLater_apply z hf R Z p hp r hR hz, slice2_axis1_apply 0 _ _ _ (0 : Fin 1) (0 : Fin 256) rfl, diagRest'_apply z hf R Z p hp r hR hz]
  exact later2_join R Z _ _ _ (by show 256 * p + 0 ≤ _; omega) (by omega)

/-- One head's row: the weights times the values, over the block's keys. -/
theorem stickRow_apply (v : Mat n 128 .bf16) (c : Fin 128) :
    stickRow (((Real.log 2)⁻¹ : ℝ) : EReal) z hf p hp v (ix2 r c) = ∑ k : Fin n, weight2 R Z n k.val * v (ix2 k c) := by
  unfold stickRow
  refine (Ideal.matmul_plain_apply _ _ _ _ r c).trans ?_
  rw [constant_apply, Ideal.ofBits_zero_f32, zero_add]
  refine Finset.sum_congr rfl fun k _ => congrArg (· * v (ix2 k c)) ?_
  refine (concatenate_apply _ _ _ _ _).trans ?_
  refine (tiles_at r (weight2 R Z n) _ 0 (fun i hi d => ?_) _ _ rfl _ _).trans (by rw [Nat.zero_add]; rfl)
  rw [Nat.zero_add]
  refine plainTiles_get z hf R Z r hz p _ _ _ (by omega) (by omega) (diagLater_apply z hf R Z p hp r hR hz) (fun j hj e => ?_) i hi d
  match j with
  | 0 => exact (diagTile_apply z hf R Z p hp r hR hz e).trans (by rw [Nat.mul_zero, Nat.add_zero])
  | 1 => exact (lastTile_apply z hf R Z p hp r hR hz e).trans (by congr 1)
  | j + 2 => exact absurd hj (by simp)

end Last

end Stick

end Cert.Attn
-- ==== Proof.Rows.lean ====
/- One head's rows of latent attention over a block of 512 queries, as the kernel computes them, and the two heads of a
   pair joined; and their values at an index. -/
module

public import proofs.«01_k».proof.Proof.Tiles

@[expose] public section

set_option maxRecDepth 16384

noncomputable section

namespace Cert.Attn

open Idealize.ShloMosaic hiding ix2 ix3 truncf_apply
open Idealize.ShloMosaic.ValueIdx
open scoped BigOperators

/-! ## Words -/

/-- The printed floor division by 64, on words. -/
def floor64 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The printed floor division by 64 of a matrix of words. -/
def floorDiv64 {s : Shape} (hlt : 1 < 32) (x : IVec s 32) : IVec s 32 :=
  select
    (andi
      (cmpi .ne (subi (extui 32 (cmpi .sgt x (broadcast s 0#32)) hlt) (extui 32 (cmpi .slt x (broadcast s 0#32)) hlt))
        (broadcast s (Scalar.subi (Scalar.extui (Scalar.cmpi .sgt 64#32 0#32)) (Scalar.extui (Scalar.cmpi .slt 64#32 0#32)))))
      (cmpi .ne (remsi x (broadcast s 64#32)) (broadcast s 0#32)))
    (subi (divsi x (broadcast s 64#32)) (broadcast s 1#32)) (divsi x (broadcast s 64#32))

theorem floorDiv64_apply {s : Shape} (hlt) (x : IVec s 32) (j : s.Idx) : floorDiv64 hlt x j = floor64 (x j) := rfl

/-- It is the division of the numbers. -/
theorem floor64_word : ∀ n : Fin 2048, floor64 (BitVec.ofNat 32 n.val) = BitVec.ofNat 32 (n.val / 64) := by decide +kernel

/-- The chunks a query sees: its own and the ones before it, within one square on the diagonal. -/
def chunkSeen (hlt : 1 < 32) (h0 : (⟨2, ![512, 512]⟩ : Shape).Iotas .tc 32 [0]) (h1 : (⟨2, ![512, 512]⟩ : Shape).Iotas .tc 32 [1]) : IVec (⟨2, ![512, 512]⟩ : Shape) 1 :=
  cmpi .sle (floorDiv64 hlt (iota .tc (⟨2, ![512, 512]⟩ : Shape) 32 [1] h1)) (floorDiv64 hlt (iota .tc (⟨2, ![512, 512]⟩ : Shape) 32 [0] h0))

theorem chunkSeen_select {α : Type} (hlt h0 h1) (x y : (⟨2, ![512, 512]⟩ : Shape).Idx → α) (r c : Fin 512) :
    select (chunkSeen hlt h0 h1) x y (ix2 r c) = if c.val / 64 ≤ r.val / 64 then x (ix2 r c) else y (ix2 r c) := by
  show Scalar.select (BitVec.ofBool ((floor64 (iota .tc _ 32 [1] h1 (ix2 r c))).sle (floor64 (iota .tc _ 32 [0] h0 (ix2 r c))))) _ _ = _
  have e0 := floor64_word ⟨r.val, by omega⟩
  have e1 := floor64_word ⟨c.val, by omega⟩
  rw [iota0, iota1, e0, e1, sle_small _ _ (by show c.val / 64 < _; omega) (by show r.val / 64 < _; omega), select_decide]

/-- The lanes from `lo` up to `hi`. -/
def ownLanes {m : ℕ} (h : (⟨2, ![m, 128]⟩ : Shape).Iotas .tc 32 [1]) (lo hi : BitVec 32) : IVec (⟨2, ![m, 128]⟩ : Shape) 1 :=
  andi (cmpi .sge (iota .tc (⟨2, ![m, 128]⟩ : Shape) 32 [1] h) (broadcast (⟨2, ![m, 128]⟩ : Shape) lo))
    (cmpi .slt (iota .tc (⟨2, ![m, 128]⟩ : Shape) 32 [1] h) (broadcast (⟨2, ![m, 128]⟩ : Shape) hi))

theorem ofBool_and (a b : Bool) : IntOp.andi (BitVec.ofBool a) (BitVec.ofBool b) = BitVec.ofBool (a && b) := by
  cases a <;> cases b <;> rfl

theorem ownLanes_select {α : Type} {m : ℕ} (h) (lo hi : ℕ) (hlo : lo < 4096) (hhi : hi < 4096) (x y : (⟨2, ![m, 128]⟩ : Shape).Idx → α) (r : Fin m) (c : Fin 128) :
    select (ownLanes h (BitVec.ofNat 32 lo) (BitVec.ofNat 32 hi)) x y (ix2 r c) = if lo ≤ c.val ∧ c.val < hi then x (ix2 r c) else y (ix2 r c) := by
  show Scalar.select (IntOp.andi (BitVec.ofBool ((BitVec.ofNat 32 lo).sle (iota .tc _ 32 [1] h (ix2 r c)))) (BitVec.ofBool ((iota .tc _ 32 [1] h (ix2 r c)).slt (BitVec.ofNat 32 hi)))) _ _ = _
  rw [iota1, sle_small _ _ hlo (by omega), slt_small _ _ (by omega) hhi, ofBool_and, ← Bool.decide_and, select_decide]

/-! ## The scores -/

/-- Queries times keys. -/
def scores (n : ℕ) (q : Mat 512 128 .bf16) (k : Mat n 128 .bf16) : Mat 512 n .f32 :=
  matmul (DotDims.transposedRhs 512 128 n) none q k (constant (⟨2, ![512, n]⟩ : Shape) .f32 0x00000000#32)

theorem scores_apply (n : ℕ) (q : Mat 512 128 .bf16) (k : Mat n 128 .bf16) (r : Fin 512) (c : Fin n) :
    scores n q k (ix2 r c) = ∑ l : Fin 128, q (ix2 r l) * k (ix2 c l) := by
  unfold scores
  refine (Ideal.matmul_transposedRhs_apply _ _ _ _ r c).trans ?_
  rw [constant_apply, Ideal.ofBits_zero_f32, zero_add]

/-- The masked scores of the first block of queries: every key lies on the diagonal. -/
def firstScores (M : Ideal .f32) (hlt : 1 < 32) (h0 : (⟨2, ![512, 512]⟩ : Shape).Iotas .tc 32 [0]) (h1 : (⟨2, ![512, 512]⟩ : Shape).Iotas .tc 32 [1])
    (z : Mat 512 512 .f32) : Mat 512 512 .f32 :=
  select (chunkSeen hlt h0 h1) z (broadcast (⟨2, ![512, 512]⟩ : Shape) M)

/-- The masked scores of a later block: the keys before the block as they are, the block's own masked. -/
def laterScores (M : Ideal .f32) (hlt : 1 < 32) (h0 : (⟨2, ![512, 512]⟩ : Shape).Iotas .tc 32 [0]) (h1 : (⟨2, ![512, 512]⟩ : Shape).Iotas .tc 32 [1])
    (o n : ℕ) (ha : (⟨2, ![512, n]⟩ : Shape).Slices ![0, 0] ⟨2, ![512, o]⟩) (hb : (⟨2, ![512, n]⟩ : Shape).Slices ![0, o] ⟨2, ![512, 512]⟩)
    (hc : Shape.Concatenates [(⟨2, ![512, o]⟩ : Shape), ⟨2, ![512, 512]⟩] ⟨2, ![512, n]⟩ 1)
    (z : Mat 512 n .f32) : Mat 512 n .f32 :=
  concatenate (⟨2, ![512, n]⟩ : Shape) 1
    [⟨⟨2, ![512, o]⟩, extractStridedSlice (⟨2, ![512, o]⟩ : Shape) ![0, 0] z ha⟩,
     ⟨⟨2, ![512, 512]⟩, select (chunkSeen hlt h0 h1) (extractStridedSlice (⟨2, ![512, 512]⟩ : Shape) ![0, o] z hb) (broadcast (⟨2, ![512, 512]⟩ : Shape) M)⟩] hc

/-- The keys query `R` sees. -/
def seen (R : ℕ) (k : ℕ) : Prop := k / 64 ≤ R / 64

instance (R : ℕ) : DecidablePred (seen R) := fun k => inferInstanceAs (Decidable (k / 64 ≤ R / 64))

theorem firstScores_apply (hlt h0 h1) (z : Mat 512 512 .f32) (r : Fin 512) (R : ℕ) (X : ℕ → EReal) (hR : R = r.val)
    (hz : ∀ k (hk : k < 512), z (ix2 r ⟨k, hk⟩) = X k) (c : Fin 512) :
    firstScores (⊥ : EReal) hlt h0 h1 z (ix2 r c) = masked (seen R) X c.val := by
  unfold firstScores masked seen
  rw [chunkSeen_select, broadcast_apply, hR]
  exact if_congr Iff.rfl (hz c.val c.isLt) rfl

theorem laterScores_apply (hlt h0 h1) (o n : ℕ) (ha hb hc) (ho : 64 ∣ o) (hn : o + 512 = n) (z : Mat 512 n .f32) (r : Fin 512) (R : ℕ) (X : ℕ → EReal) (hR : R = o + r.val)
    (hz : ∀ k (hk : k < n), z (ix2 r ⟨k, hk⟩) = X k) (c : Fin n) :
    laterScores (⊥ : EReal) hlt h0 h1 o n ha hb hc z (ix2 r c) = masked (seen R) X c.val := by
  unfold laterScores masked
  obtain ⟨a, rfl⟩ := ho
  rw [beside_apply _ _ _ hn]
  by_cases h1 : c.val < 64 * a
  · rw [dif_pos h1, if_pos (show seen R c.val from (show c.val / 64 ≤ R / 64 by omega)), slice2_axis1_apply 0 _ _ _ _ c (by show c.val = 0 + c.val; omega)]; exact hz _ _
  · rw [dif_neg h1, chunkSeen_select, slice2_axis1_apply _ _ _ _ _ c (by show c.val = _ + (c.val - _); omega)]
    exact if_congr (by show (c.val - _) / 64 ≤ _ ↔ c.val / 64 ≤ R / 64; omega) (hz _ _) rfl

/-! ## The rows -/

/-- The side facts of one head's rows over `n` keys. -/
structure SoftFacts (n : ℕ) : Prop where
  red : (⟨2, ![512, n]⟩ : Shape).Reduces [1] ⟨1, ![512]⟩
  col : (⟨1, ![512]⟩ : Shape).ShapeCasts ⟨2, ![512, 1]⟩
  hb : (⟨2, ![512, 1]⟩ : Shape).Broadcasts ⟨2, ![512, n]⟩
  hw : FTy.bf16.bits < FTy.f32.bits
  lane : (⟨2, ![n, 128]⟩ : Shape).Iotas .tc 32 [1]
  rot : (⟨2, ![512, 128]⟩ : Shape).Rotates 1 none

/-- They hold at every number of keys. -/
theorem softFacts (n : ℕ) : SoftFacts n where
  red := ⟨rfl, by decide, fun b => by match b with | ⟨0, _⟩ => rfl⟩
  col := by decide
  hb := ⟨by show 2 ≤ 2; omega, fun a => by match a with | ⟨0, _⟩ => exact .inr fun _ => rfl | ⟨1, _⟩ => exact .inl rfl⟩
  hw := by decide
  lane := ⟨by simp, fun _ => ⟨.inr rfl, le_refl 2⟩, fun h => absurd rfl h⟩
  rot := by decide

/-- The exponentials less the row's greatest score. -/
def softExp {n : ℕ} (hf : SoftFacts n) (sc : Mat 512 n .f32) : Mat 512 n .f32 :=
  exp2 (subf sc (broadcastTo (⟨2, ![512, n]⟩ : Shape)
    (shapeCast (⟨2, ![512, 1]⟩ : Shape) (multiReduction .maximumf [1] (⟨1, ![512]⟩ : Shape) sc 0xFF800000#32 hf.red (.inl rfl) rfl) hf.col) hf.hb))

/-- The exponentials times the values, ones standing in the other head's lanes. -/
def softAcc {n : ℕ} (hf : SoftFacts n) (sc : Mat 512 n .f32) (lo hi : BitVec 32) (v : Mat n 128 .bf16) : Mat 512 128 .f32 :=
  matmul (DotDims.plain 512 n 128) none (truncf .bf16 (softExp hf sc) hf.hw)
    (truncf .bf16 (select (ownLanes hf.lane lo hi) (extf .f32 v hf.hw) (broadcast (⟨2, ![n, 128]⟩ : Shape) (Scalar.ofBits .f32 0x3F800000#32 : Ideal .f32))) hf.hw)
    (constant (⟨2, ![512, 128]⟩ : Shape) .f32 0x00000000#32)

/-- One head's rows: the values' sums over the ones' sums, which lie half a turn away. -/
def softRow {n : ℕ} (hf : SoftFacts n) (sc : Mat 512 n .f32) (lo hi : BitVec 32) (v : Mat n 128 .bf16) : Mat 512 128 .f32 :=
  divf (softAcc hf sc lo hi v) (dynamicRotate 1 64#32 none (softAcc hf sc lo hi v) hf.rot)

theorem softExp_apply {n : ℕ} (hf : SoftFacts n) (sc : Mat 512 n .f32) (r : Fin 512) (X : ℕ → EReal)
    (hX : ∀ k : Fin n, sc (ix2 r k) = X k.val) (k : Fin n) : softExp hf sc (ix2 r k) = Ideal.exp2 (X k.val - greatest n X) := by
  show Ideal.exp2 (sc (ix2 r k) - broadcastTo _ _ hf.hb (ix2 r k)) = _
  rw [spread_apply (by omega), shapeCast_a_a1_apply, hX]
  refine congrArg (fun t => Ideal.exp2 (X k.val - t)) ?_
  refine (Ideal.multiReduction_maximumf_single _ _ _ _ _ _).trans ?_
  unfold greatest
  refine (congrArg (fun b => Finset.fold max b _ _) bot_word).trans ?_
  refine Finset.fold_congr fun j _ => ?_
  refine Eq.trans (congrArg sc (funext fun c => Fin.ext ?_)) (hX j)
  match c with
  | ⟨0, _⟩ => rfl
  | ⟨1, _⟩ => rfl

theorem softAcc_apply {n : ℕ} (hf : SoftFacts n) (sc : Mat 512 n .f32) (lo hi : ℕ) (hlo : lo < 4096) (hhi : hi < 4096) (v : Mat n 128 .bf16) (r : Fin 512) (X : ℕ → EReal)
    (hX : ∀ k : Fin n, sc (ix2 r k) = X k.val) (c : Fin 128) :
    softAcc hf sc (BitVec.ofNat 32 lo) (BitVec.ofNat 32 hi) v (ix2 r c)
      = ∑ k : Fin n, Ideal.exp2 (X k.val - greatest n X) * (if lo ≤ c.val ∧ c.val < hi then v (ix2 k c) else 1) := by
  unfold softAcc
  refine (Ideal.matmul_plain_apply _ _ _ _ r c).trans ?_
  rw [constant_apply, Ideal.ofBits_zero_f32, zero_add]
  refine Finset.sum_congr rfl fun k _ => ?_
  rw [truncf_apply, softExp_apply hf sc r X hX, truncf_apply, ownLanes_select _ _ _ hlo hhi, extf_apply, broadcast_apply, one_word]

/-- One head's row is `soft2`. -/
theorem softRow_apply {n : ℕ} (hf : SoftFacts n) (sc : Mat 512 n .f32) (lo hi : ℕ) (hlo : lo < 4096) (hhi : hi < 4096) (v : Mat n 128 .bf16) (r : Fin 512) (X : ℕ → EReal)
    (hX : ∀ k : Fin n, sc (ix2 r k) = X k.val) (c : Fin 128) (hc : lo ≤ c.val ∧ c.val < hi) (hc' : ¬ (lo ≤ (c.val + 64) % 128 ∧ (c.val + 64) % 128 < hi))
    (V : ℕ → EReal) (hV : ∀ k : Fin n, v (ix2 k c) = V k.val) :
    softRow hf sc (BitVec.ofNat 32 lo) (BitVec.ofNat 32 hi) v (ix2 r c) = soft2 n X V := by
  unfold softRow soft2
  rw [divf_apply, softAcc_apply hf sc lo hi hlo hhi v r X hX]
  congr 1
  · exact Finset.sum_congr rfl fun k _ => by rw [if_pos hc, hV]
  · refine (dynamicRotate_apply _ _ _ _ _ (ix2 r ⟨(c.val + 64) % 128, by omega⟩) fun b => ?_).trans ?_
    · match b with
      | ⟨0, _⟩ => rfl
      | ⟨1, _⟩ => show (c.val + 64) % 128 = (c.val + 128 - 64 % 128) % 128; omega
    · rw [softAcc_apply hf sc lo hi hlo hhi v r X hX]
      exact Finset.sum_congr rfl fun k _ => by rw [if_neg hc']

/-! ## A pair of heads -/

/-- The two heads' rows joined, the first in the lower half of the lanes, and stored. -/
def joined (hl : (⟨2, ![512, 128]⟩ : Shape).Iotas .tc 32 [1]) (hw : FTy.bf16.bits < FTy.f32.bits) (hs : (⟨2, ![512, 128]⟩ : Shape).ShapeCasts ⟨3, ![1, 512, 128]⟩)
    (a b : Mat 512 128 .f32) : FVec Ideal (⟨3, ![1, 512, 128]⟩ : Shape) .bf16 :=
  shapeCast (⟨3, ![1, 512, 128]⟩ : Shape)
    (truncf .bf16 (select (cmpi .slt (iota .tc (⟨2, ![512, 128]⟩ : Shape) 32 [1] hl) (broadcast (⟨2, ![512, 128]⟩ : Shape) 64#32)) a b) hw) hs

theorem joined_apply (hl hw hs) (a b : Mat 512 128 .f32) (u : Fin 1) (r : Fin 512) (c : Fin 128) :
    joined hl hw hs a b (ix3 u r c) = if c.val < 64 then a (ix2 r c) else b (ix2 r c) := by
  unfold joined
  rw [shapeCast_ab_1ab_apply, truncf_apply]
  show Scalar.select (BitVec.ofBool ((iota .tc _ 32 [1] hl (ix2 r c)).slt (BitVec.ofNat 32 64))) _ _ = _
  rw [iota1, slt_small _ _ (by omega) (by omega), select_decide]

/-- The queries of one head of a pair: the other head's lanes zero. -/
def headOnly (hl : (⟨2, ![512, 128]⟩ : Shape).Iotas .tc 32 [1]) (lo hi : BitVec 32) (q : Mat 512 128 .bf16) : Mat 512 128 .bf16 :=
  select (ownLanes hl lo hi) q (broadcast (⟨2, ![512, 128]⟩ : Shape) (Scalar.ofBits .bf16 0x0000#16 : Ideal .bf16))

theorem headOnly_apply (hl) (lo hi : ℕ) (hlo : lo < 4096) (hhi : hi < 4096) (q : Mat 512 128 .bf16) (r : Fin 512) (c : Fin 128) :
    headOnly hl (BitVec.ofNat 32 lo) (BitVec.ofNat 32 hi) q (ix2 r c) = if lo ≤ c.val ∧ c.val < hi then q (ix2 r c) else 0 := by
  unfold headOnly
  rw [ownLanes_select _ _ _ hlo hhi, broadcast_apply, zero_half]

end Cert.Attn
-- ==== Proof.Blocks.lean ====
/- What the kernel stores for each of the four blocks of queries of a pair of heads is the rows of `Rows` and `Tiles`. -/
module

public import proofs.«01_k».proof.Proof.Rows
public import proofs.«01_k».proof.Proof.Gen.KernelIdeal.Frame

@[expose] public section

set_option maxRecDepth 16384

noncomputable section

namespace Cert.Attn

open Idealize.ShloMosaic
open Cert.KernelIdeal Cert.KernelIdeal.Gen

/-- A block with a leading unit axis. -/
abbrev Blk (a b : ℕ) := FVec Ideal (⟨3, ![1, a, b]⟩ : Shape) .bf16

/-- A block without its leading unit axis. -/
def flat {a b : ℕ} (x : Blk a b) : Mat a b .bf16 :=
  shapeCast (⟨2, ![a, b]⟩ : Shape) x (by simp [Shape.ShapeCasts, Shape.numel, Fin.prod_univ_succ])

/-- The kernel's word for the mask. -/
abbrev maskWord : Ideal .f32 := Named.named κ "mask" 0xF149F2CA#32

/-- The kernel's word for the logarithm of e in base 2. -/
abbrev log2eWord : Ideal .f32 := Named.named κ "log2e" 0x3FB8AA3B#32

/-- The stored block of latent attention, first block of queries. -/
def mlaFirst (q q' k k' v : Blk 512 128) : Blk 512 128 :=
  joined iota_S512x128_d1_w32 bitsLt_bf16_f32 shapeCasts_S512x128_S1x512x128
    (softRow (softFacts 512) (firstScores maskWord natLt_1_32 iota_S512x512_d0_w32 iota_S512x512_d1_w32 (scores 512 (flat q) (flat k))) 0#32 64#32 (flat v))
    (softRow (softFacts 512) (firstScores maskWord natLt_1_32 iota_S512x512_d0_w32 iota_S512x512_d1_w32 (scores 512 (flat q') (flat k'))) 64#32 128#32 (flat v))

/-- The keys before the block are a slice of the keys; -/
theorem keysBefore (o n : ℕ) (hn : o + 512 = n) : (⟨2, ![512, n]⟩ : Shape).Slices ![0, 0] ⟨2, ![512, o]⟩ :=
  ⟨rfl, fun a => by match a with | ⟨0, _⟩ => exact le_refl 512 | ⟨1, _⟩ => show 0 + o ≤ n; omega⟩

/-- the keys of the block are a slice of the keys; -/
theorem keysDiag (o n : ℕ) (hn : o + 512 = n) : (⟨2, ![512, n]⟩ : Shape).Slices ![0, o] ⟨2, ![512, 512]⟩ :=
  ⟨rfl, fun a => by match a with | ⟨0, _⟩ => exact le_refl 512 | ⟨1, _⟩ => show o + 512 ≤ n; omega⟩

/-- and the two stand beside one another. -/
theorem keysBoth (o n : ℕ) (hn : o + 512 = n) : Shape.Concatenates [(⟨2, ![512, o]⟩ : Shape), ⟨2, ![512, 512]⟩] ⟨2, ![512, n]⟩ 1 :=
  ⟨le_refl 2, fun s hs => by
    rcases List.mem_cons.1 hs with rfl | hs
    · exact ⟨rfl, fun b hb => by match b with | ⟨0, _⟩ => rfl | ⟨1, _⟩ => exact absurd rfl hb⟩
    · rcases List.mem_cons.1 hs with rfl | hs
      · exact ⟨rfl, fun b hb => by match b with | ⟨0, _⟩ => rfl | ⟨1, _⟩ => exact absurd rfl hb⟩
      · exact absurd hs List.not_mem_nil, by show o + (512 + 0) = n; omega⟩

/-- A later block: `o` keys before it, `n` keys with it. -/
def mlaLater (o n : ℕ) (hn : o + 512 = n) (q q' : Blk 512 128) (k k' v : Blk n 128) : Blk 512 128 :=
  joined iota_S512x128_d1_w32 bitsLt_bf16_f32 shapeCasts_S512x128_S1x512x128
    (softRow (softFacts n) (laterScores maskWord natLt_1_32 iota_S512x512_d0_w32 iota_S512x512_d1_w32 o n (keysBefore o n hn) (keysDiag o n hn) (keysBoth o n hn) (scores n (flat q) (flat k))) 0#32 64#32 (flat v))
    (softRow (softFacts n) (laterScores maskWord natLt_1_32 iota_S512x512_d0_w32 iota_S512x512_d1_w32 o n (keysBefore o n hn) (keysDiag o n hn) (keysBoth o n hn) (scores n (flat q') (flat k'))) 64#32 128#32 (flat v))

/-- The stored block of stick-breaking attention: `p` tiles before the diagonal. -/
def stickBlock (p n : ℕ) (hp : 256 * p + 512 = n) (q : Blk 512 128) (k v : Blk n 128) : Blk 512 128 :=
  joined iota_S512x128_d1_w32 bitsLt_bf16_f32 shapeCasts_S512x128_S1x512x128
    (stickRow log2eWord (scores n (headOnly iota_S512x128_d1_w32 0#32 64#32 (flat q)) (flat k)) (stickFacts n) p hp (flat v))
    (stickRow log2eWord (scores n (headOnly iota_S512x128_d1_w32 64#32 128#32 (flat q)) (flat k)) (stickFacts n) p hp (flat v))

variable (x0 x1 : FVec Ideal S1x2048x256 .bf16) (x2 x3 x4 x5 : FVec Ideal S1x2048x128 .bf16)

/-- What the kernel stores of latent attention. -/
theorem stored6 : out0_6 (F := Ideal) x0 x1 x2 x3 x4 x5 = View.canon (s := S1x2048x128) (e := .bf16)
    [⟨r0_20, mlaLater 1536 2048 rfl (View.ld (Val := Elt Ideal) (e' := .bf16) x0 r0_15) (View.ld (Val := Elt Ideal) (e' := .bf16) x0 r0_18) (View.ld (Val := Elt Ideal) (e' := .bf16) x1 r0_16) (View.ld (Val := Elt Ideal) (e' := .bf16) x1 r0_19) (View.ld (Val := Elt Ideal) (e' := .bf16) x2 r0_17)⟩,
     ⟨r0_14, mlaLater 1024 1536 rfl (View.ld (Val := Elt Ideal) (e' := .bf16) x0 r0_9) (View.ld (Val := Elt Ideal) (e' := .bf16) x0 r0_12) (View.ld (Val := Elt Ideal) (e' := .bf16) x1 r0_10) (View.ld (Val := Elt Ideal) (e' := .bf16) x1 r0_13) (View.ld (Val := Elt Ideal) (e' := .bf16) x2 r0_11)⟩,
     ⟨r0_8, mlaLater 512 1024 rfl (View.ld (Val := Elt Ideal) (e' := .bf16) x0 r0_3) (View.ld (Val := Elt Ideal) (e' := .bf16) x0 r0_6) (View.ld (Val := Elt Ideal) (e' := .bf16) x1 r0_4) (View.ld (Val := Elt Ideal) (e' := .bf16) x1 r0_7) (View.ld (Val := Elt Ideal) (e' := .bf16) x2 r0_5)⟩,
     ⟨r0_1, mlaFirst (View.ld (Val := Elt Ideal) (e' := .bf16) x0 r0_0) (View.ld (Val := Elt Ideal) (e' := .bf16) x0 r0_2) (View.ld (Val := Elt Ideal) (e' := .bf16) x1 r0_0) (View.ld (Val := Elt Ideal) (e' := .bf16) x1 r0_2) (View.ld (Val := Elt Ideal) (e' := .bf16) x2 r0_1)⟩] := rfl

/-- What the kernel stores of stick-breaking attention. -/
theorem stored7 : out0_7 (F := Ideal) x0 x1 x2 x3 x4 x5 = View.canon (s := S1x2048x128) (e := .bf16)
    [⟨r0_20, stickBlock 6 2048 rfl (View.ld (Val := Elt Ideal) (e' := .bf16) x3 r0_20) (View.ld (Val := Elt Ideal) (e' := .bf16) x4 r0_17) (View.ld (Val := Elt Ideal) (e' := .bf16) x5 r0_17)⟩,
     ⟨r0_14, stickBlock 4 1536 rfl (View.ld (Val := Elt Ideal) (e' := .bf16) x3 r0_14) (View.ld (Val := Elt Ideal) (e' := .bf16) x4 r0_11) (View.ld (Val := Elt Ideal) (e' := .bf16) x5 r0_11)⟩,
     ⟨r0_8, stickBlock 2 1024 rfl (View.ld (Val := Elt Ideal) (e' := .bf16) x3 r0_8) (View.ld (Val := Elt Ideal) (e' := .bf16) x4 r0_5) (View.ld (Val := Elt Ideal) (e' := .bf16) x5 r0_5)⟩,
     ⟨r0_1, stickBlock 0 512 rfl (View.ld (Val := Elt Ideal) (e' := .bf16) x3 r0_1) (View.ld (Val := Elt Ideal) (e' := .bf16) x4 r0_1) (View.ld (Val := Elt Ideal) (e' := .bf16) x5 r0_1)⟩] := rfl

end Cert.Attn
-- ==== Proof.BlockValues.lean ====
/- What the kernel leaves in a pair's two result blocks, at a query and a lane. -/
module

public import proofs.«01_k».proof.Proof.Blocks

@[expose] public section

set_option maxRecDepth 16384

noncomputable section

namespace Cert.Attn

open Idealize.ShloMosaic hiding ix2 ix3 truncf_apply
open Idealize.ShloMosaic.ValueIdx
open Cert.KernelIdeal Cert.KernelIdeal.Gen
open scoped BigOperators

/-- The kernel's mask is minus infinity. -/
theorem maskWord_eq : maskWord = (⊥ : EReal) := rfl

/-- The kernel's logarithm of e in base 2 is exact. -/
theorem log2eWord_eq : log2eWord = (((Real.log 2)⁻¹ : ℝ) : EReal) := rfl

/-- A block's element at two natural numbers, zero outside the block. -/
def at3 {a b : ℕ} (x : Blk a b) (i j : ℕ) : EReal :=
  if h : i < a ∧ j < b then x (ix3 (0 : Fin 1) ⟨i, h.1⟩ ⟨j, h.2⟩) else 0

theorem at3_eq {a b : ℕ} (x : Blk a b) (i : Fin a) (j : Fin b) : at3 x i.val j.val = x (ix3 (0 : Fin 1) i j) :=
  dif_pos ⟨i.isLt, j.isLt⟩

theorem flat_apply {a b : ℕ} (x : Blk a b) (i : Fin a) (j : Fin b) : flat x (ix2 i j) = x (ix3 (0 : Fin 1) i j) :=
  shapeCast_1ab_ab_apply x _ i j

/-- A load of a run of rows and lanes reads the block shifted. -/
theorem load_at {a b n m o l : ℕ} (x : Blk a b) (inb) (j : Fin n) (c : Fin m) :
    View.ld (Val := Elt Ideal) (e' := .bf16) x (Rect.unit (s := ⟨3, ![1, a, b]⟩) ![0, o, l] (⟨3, ![1, n, m]⟩ : Shape).size inb) (ix3 (0 : Fin 1) j c)
      = at3 x (o + j.val) (l + c.val) := by
  have h1 : o + n ≤ a := inb 1
  have h2 : l + m ≤ b := inb 2
  rw [at3, dif_pos ⟨by omega, by omega⟩]
  refine congrArg x ?_
  refine funext fun d => Fin.ext ?_
  match d with
  | ⟨0, _⟩ => rfl
  | ⟨1, _⟩ => show o + 1 * j.val = o + j.val; omega
  | ⟨2, _⟩ => show l + 1 * c.val = l + c.val; omega

/-- The last store read where it wrote; -/
theorem store_hit {o : ℕ} (inb) (w : Blk 512 128) (L : List (View.Piece (Elt Ideal) S1x2048x128 .bf16)) (R : Fin 2048) (c : Fin 128)
    (r : Fin 512) (hR : R.val = o + r.val) :
    View.canon ((⟨Rect.unit (s := S1x2048x128) ![0, o, 0] S1x512x128.size inb, w⟩ : View.Piece (Elt Ideal) S1x2048x128 .bf16) :: L) (ix3 (0 : Fin 1) R c)
      = w (ix3 (0 : Fin 1) r c) := by
  rw [← View.canon_cons_emb (Rect.unit (s := S1x2048x128) ![0, o, 0] S1x512x128.size inb) w L (ix3 (0 : Fin 1) r c)]
  refine congrArg (View.canon (_ :: L)) (funext fun d => Fin.ext ?_)
  match d with
  | ⟨0, _⟩ => rfl
  | ⟨1, _⟩ => show R.val = o + 1 * r.val; omega
  | ⟨2, _⟩ => show c.val = 0 + 1 * c.val; omega

/-- elsewhere the earlier stores are read. -/
theorem store_miss {o : ℕ} (inb) (w : Blk 512 128) (L : List (View.Piece (Elt Ideal) S1x2048x128 .bf16)) (R : Fin 2048) (c : Fin 128)
    (hR : R.val < o) :
    View.canon ((⟨Rect.unit (s := S1x2048x128) ![0, o, 0] S1x512x128.size inb, w⟩ : View.Piece (Elt Ideal) S1x2048x128 .bf16) :: L) (ix3 (0 : Fin 1) R c)
      = View.canon L (ix3 (0 : Fin 1) R c) := by
  refine View.canon_cons_of_not_mem _ L fun h => ?_
  have h' := (Rect.mem_set_unit (inb := inb) |>.1 h) (1 : Fin 3)
  have h'' : o ≤ R.val := h'.1
  omega

/-! ## One block of queries -/

section Block
variable (u : Fin 1) (r : Fin 512) (c : Fin 128) (R : ℕ) (X X' V : ℕ → EReal)

/-- The first block of latent attention at a query and a lane. -/
theorem mlaFirst_apply (q q' k k' v : Blk 512 128) (hR : R = r.val)
    (hX : ∀ j : Fin 512, ∑ l : Fin 128, q (ix3 (0 : Fin 1) r l) * k (ix3 (0 : Fin 1) j l) = X j.val)
    (hX' : ∀ j : Fin 512, ∑ l : Fin 128, q' (ix3 (0 : Fin 1) r l) * k' (ix3 (0 : Fin 1) j l) = X' j.val)
    (hV : ∀ j : Fin 512, v (ix3 (0 : Fin 1) j c) = V j.val) :
    mlaFirst q q' k k' v (ix3 u r c) = soft2 512 (masked (seen R) (if c.val < 64 then X else X')) V := by
  have hv : ∀ j : Fin 512, flat v (ix2 j c) = V j.val := fun j => (flat_apply v j c).trans (hV j)
  have hc := c.isLt
  rw [mlaFirst, joined_apply, maskWord_eq]
  by_cases h : c.val < 64
  · rw [if_pos h, if_pos h]
    refine softRow_apply _ _ 0 64 (by omega) (by omega) _ r (masked (seen R) X) (fun j => ?_) c (by omega) (by omega) V hv
    refine firstScores_apply _ _ _ _ r R X hR (fun j hj => ?_) j
    rw [scores_apply]; simp only [flat_apply]; exact hX ⟨j, hj⟩
  · rw [if_neg h, if_neg h]
    refine softRow_apply _ _ 64 128 (by omega) (by omega) _ r (masked (seen R) X') (fun j => ?_) c (by omega) (by omega) V hv
    refine firstScores_apply _ _ _ _ r R X' hR (fun j hj => ?_) j
    rw [scores_apply]; simp only [flat_apply]; exact hX' ⟨j, hj⟩

/-- A later block of latent attention at a query and a lane. -/
theorem mlaLater_apply (o n : ℕ) (hn : o + 512 = n) (ho : 64 ∣ o) (q q' : Blk 512 128) (k k' v : Blk n 128) (hR : R = o + r.val)
    (hX : ∀ j : Fin n, ∑ l : Fin 128, q (ix3 (0 : Fin 1) r l) * k (ix3 (0 : Fin 1) j l) = X j.val)
    (hX' : ∀ j : Fin n, ∑ l : Fin 128, q' (ix3 (0 : Fin 1) r l) * k' (ix3 (0 : Fin 1) j l) = X' j.val)
    (hV : ∀ j : Fin n, v (ix3 (0 : Fin 1) j c) = V j.val) :
    mlaLater o n hn q q' k k' v (ix3 u r c) = soft2 n (masked (seen R) (if c.val < 64 then X else X')) V := by
  have hv : ∀ j : Fin n, flat v (ix2 j c) = V j.val := fun j => (flat_apply v j c).trans (hV j)
  have hc := c.isLt
  rw [mlaLater]
  rw [joined_apply, maskWord_eq]
  by_cases h : c.val < 64
  · rw [if_pos h, if_pos h]
    refine softRow_apply _ _ 0 64 (by omega) (by omega) _ r (masked (seen R) X) (fun j => ?_) c (by omega) (by omega) V hv
    refine laterScores_apply _ _ _ o n _ _ _ ho hn _ r R X hR (fun j hj => ?_) j
    rw [scores_apply]; simp only [flat_apply]; exact hX ⟨j, hj⟩
  · rw [if_neg h, if_neg h]
    refine softRow_apply _ _ 64 128 (by omega) (by omega) _ r (masked (seen R) X') (fun j => ?_) c (by omega) (by omega) V hv
    refine laterScores_apply _ _ _ o n _ _ _ ho hn _ r R X' hR (fun j hj => ?_) j
    rw [scores_apply]; simp only [flat_apply]; exact hX' ⟨j, hj⟩

/-- A sum over 128 lanes of a factor kept on 64 of them is the sum over those. -/
theorem own_sum (lo : ℕ) (hlo : lo = 0 ∨ lo = 64) (f g : ℕ → EReal) :
    ∑ l : Fin 128, (if lo ≤ l.val ∧ l.val < lo + 64 then f l.val else 0) * g l.val = ∑ l : Fin 64, f (lo + l.val) * g (lo + l.val) := by
  rw [Fin.sum_univ_add (a := 64) (b := 64) (fun l : Fin 128 => (if lo ≤ l.val ∧ l.val < lo + 64 then f l.val else 0) * g l.val)]
  rcases hlo with rfl | rfl
  · rw [Finset.sum_eq_zero (s := Finset.univ) (f := fun i : Fin 64 => (if 0 ≤ (Fin.natAdd 64 i).val ∧ (Fin.natAdd 64 i).val < 0 + 64 then f (Fin.natAdd 64 i).val else 0) * g (Fin.natAdd 64 i).val), add_zero]
    · refine Finset.sum_congr rfl fun l _ => ?_
      rw [if_pos ⟨Nat.zero_le _, by show l.val < 0 + 64; omega⟩, Nat.zero_add]; rfl
    · intro l _
      rw [if_neg (fun h => by have := h.2; rw [Fin.val_natAdd] at this; omega), zero_mul]
  · rw [Finset.sum_eq_zero (s := Finset.univ) (f := fun i : Fin 64 => (if 64 ≤ (Fin.castAdd 64 i).val ∧ (Fin.castAdd 64 i).val < 64 + 64 then f (Fin.castAdd 64 i).val else 0) * g (Fin.castAdd 64 i).val), zero_add]
    · refine Finset.sum_congr rfl fun l _ => ?_
      rw [if_pos ⟨by rw [Fin.val_natAdd]; omega, by rw [Fin.val_natAdd]; omega⟩]; rfl
    · intro l _
      rw [if_neg (fun h => by have := h.1; rw [Fin.val_castAdd] at this; omega), zero_mul]

/-- A block of stick-breaking attention at a query and a lane. -/
theorem stickBlock_apply (p n : ℕ) (hp : 256 * p + 512 = n) (q : Blk 512 128) (k v : Blk n 128) (hR : R = 256 * p + r.val) (Q : ℕ → EReal) (K : ℕ → ℕ → EReal)
    (hQ : ∀ l : Fin 128, q (ix3 (0 : Fin 1) r l) = Q l.val)
    (hK : ∀ (j : Fin n) (l : Fin 128), k (ix3 (0 : Fin 1) j l) = K j.val l.val)
    (hV : ∀ j : Fin n, v (ix3 (0 : Fin 1) j c) = V j.val) :
    stickBlock p n hp q k v (ix3 u r c)
      = ∑ j : Fin n, weight2 R (fun j => ∑ l : Fin 64, Q (64 * (c.val / 64) + l.val) * K j (64 * (c.val / 64) + l.val)) n j.val * V j.val := by
  have hc := c.isLt
  have hs : ∀ lo, lo = 0 ∨ lo = 64 → ∀ j (hj : j < n),
      scores n (headOnly iota_S512x128_d1_w32 (BitVec.ofNat 32 lo) (BitVec.ofNat 32 (lo + 64)) (flat q)) (flat k) (ix2 r ⟨j, hj⟩)
        = ∑ l : Fin 64, Q (lo + l.val) * K j (lo + l.val) := by
    intro lo hlo j hj
    rw [scores_apply, ← own_sum lo hlo Q (K j)]
    refine Finset.sum_congr rfl fun l _ => ?_
    rw [headOnly_apply _ lo (lo + 64) (by omega) (by omega), flat_apply, flat_apply, hK, hQ]
  rw [stickBlock, joined_apply, log2eWord_eq]
  by_cases h : c.val < 64
  · rw [if_pos h]
    have h0 : 64 * (c.val / 64) = 0 := by omega
    rw [h0]
    refine (stickRow_apply _ _ R _ p hp r hR (hs 0 (Or.inl rfl)) (flat v) c).trans ?_
    refine Finset.sum_congr rfl fun j _ => ?_
    rw [flat_apply, hV]
  · rw [if_neg h]
    have h0 : 64 * (c.val / 64) = 64 := by omega
    rw [h0]
    refine (stickRow_apply _ _ R _ p hp r hR (hs 64 (Or.inr rfl)) (flat v) c).trans ?_
    refine Finset.sum_congr rfl fun j _ => ?_
    rw [flat_apply, hV]

end Block

/-! ## The two result blocks -/

variable (x0 x1 : Blk 2048 256) (x2 x3 x4 x5 : Blk 2048 128) (R : Fin 2048) (c : Fin 128)

/-- The number of keys the query's block reads. -/
abbrev keys (R : ℕ) : ℕ := 512 * (R / 512) + 512

/-- The score of a query and a key in half `h` of a pair: over 128 lanes. -/
def wideScore (h : ℕ) (i j : ℕ) : EReal := ∑ l : Fin 128, at3 x0 i (128 * h + l.val) * at3 x1 j (128 * h + l.val)

/-- The score of a query and a key in half `h` of a pair: over 64 lanes. -/
def narrowScore (h : ℕ) (i j : ℕ) : EReal := ∑ l : Fin 64, at3 x3 i (64 * h + l.val) * at3 x4 j (64 * h + l.val)

theorem half_ite (i : ℕ) : (if c.val < 64 then wideScore x0 x1 0 i else wideScore x0 x1 1 i) = wideScore x0 x1 (c.val / 64) i := by
  have hc := c.isLt
  by_cases h : c.val < 64
  · rw [if_pos h, show c.val / 64 = 0 by omega]
  · rw [if_neg h, show c.val / 64 = 1 by omega]

/-- The latent attention's result block. -/
theorem out6_apply : out0_6 (F := Ideal) x0 x1 x2 x3 x4 x5 (ix3 (0 : Fin 1) R c)
    = soft2 (keys R.val) (masked (seen R.val) (wideScore x0 x1 (c.val / 64) R.val)) (fun j => at3 x2 j c.val) := by
  have hR := R.isLt
  rw [stored6]
  by_cases h3 : 1536 ≤ R.val
  · rw [store_hit _ _ _ R c ⟨R.val - 1536, by omega⟩ (by show R.val = 1536 + (R.val - 1536); omega), show keys R.val = 2048 by unfold keys; omega, ← half_ite]
    refine mlaLater_apply 0 _ c R.val _ _ _ 1536 2048 rfl (by decide) _ _ _ _ _ (by show R.val = 1536 + (R.val - 1536); omega) (fun j => ?_) (fun j => ?_) (fun j => ?_)
    · refine Finset.sum_congr rfl fun l _ => ?_
      rw [load_at, load_at]
      show at3 x0 (1536 + (R.val - 1536)) _ * at3 x1 (0 + j.val) _ = _
      rw [show 1536 + (R.val - 1536) = R.val by omega]; simp only [Nat.zero_add, Nat.mul_zero, Nat.mul_one]
    · refine Finset.sum_congr rfl fun l _ => ?_
      rw [load_at, load_at]
      show at3 x0 (1536 + (R.val - 1536)) _ * at3 x1 (0 + j.val) _ = _
      rw [show 1536 + (R.val - 1536) = R.val by omega]; simp only [Nat.zero_add, Nat.mul_zero, Nat.mul_one]
    · rw [load_at, Nat.zero_add, Nat.zero_add]
  rw [store_miss _ _ _ R c (by omega)]
  by_cases h2 : 1024 ≤ R.val
  · rw [store_hit _ _ _ R c ⟨R.val - 1024, by omega⟩ (by show R.val = 1024 + (R.val - 1024); omega), show keys R.val = 1536 by unfold keys; omega, ← half_ite]
    refine mlaLater_apply 0 _ c R.val _ _ _ 1024 1536 rfl (by decide) _ _ _ _ _ (by show R.val = 1024 + (R.val - 1024); omega) (fun j => ?_) (fun j => ?_) (fun j => ?_)
    · refine Finset.sum_congr rfl fun l _ => ?_
      rw [load_at, load_at]
      show at3 x0 (1024 + (R.val - 1024)) _ * at3 x1 (0 + j.val) _ = _
      rw [show 1024 + (R.val - 1024) = R.val by omega]; simp only [Nat.zero_add, Nat.mul_zero, Nat.mul_one]
    · refine Finset.sum_congr rfl fun l _ => ?_
      rw [load_at, load_at]
      show at3 x0 (1024 + (R.val - 1024)) _ * at3 x1 (0 + j.val) _ = _
      rw [show 1024 + (R.val - 1024) = R.val by omega]; simp only [Nat.zero_add, Nat.mul_zero, Nat.mul_one]
    · rw [load_at, Nat.zero_add, Nat.zero_add]
  rw [store_miss _ _ _ R c (by omega)]
  by_cases h1 : 512 ≤ R.val
  · rw [store_hit _ _ _ R c ⟨R.val - 512, by omega⟩ (by show R.val = 512 + (R.val - 512); omega), show keys R.val = 1024 by unfold keys; omega, ← half_ite]
    refine mlaLater_apply 0 _ c R.val _ _ _ 512 1024 rfl (by decide) _ _ _ _ _ (by show R.val = 512 + (R.val - 512); omega) (fun j => ?_) (fun j => ?_) (fun j => ?_)
    · refine Finset.sum_congr rfl fun l _ => ?_
      rw [load_at, load_at]
      show at3 x0 (512 + (R.val - 512)) _ * at3 x1 (0 + j.val) _ = _
      rw [show 512 + (R.val - 512) = R.val by omega]; simp only [Nat.zero_add, Nat.mul_zero, Nat.mul_one]
    · refine Finset.sum_congr rfl fun l _ => ?_
      rw [load_at, load_at]
      show at3 x0 (512 + (R.val - 512)) _ * at3 x1 (0 + j.val) _ = _
      rw [show 512 + (R.val - 512) = R.val by omega]; simp only [Nat.zero_add, Nat.mul_zero, Nat.mul_one]
    · rw [load_at, Nat.zero_add, Nat.zero_add]
  rw [store_miss _ _ _ R c (by omega)]
  rw [store_hit _ _ _ R c ⟨R.val, by omega⟩ (Nat.zero_add _).symm, show keys R.val = 512 by unfold keys; omega, ← half_ite]
  refine mlaFirst_apply 0 _ c R.val _ _ _ _ _ _ _ _ rfl (fun j => ?_) (fun j => ?_) (fun j => ?_)
  · refine Finset.sum_congr rfl fun l _ => ?_
    rw [load_at, load_at]; simp only [Nat.zero_add, Nat.mul_zero, Nat.mul_one]
  · refine Finset.sum_congr rfl fun l _ => ?_
    rw [load_at, load_at]; simp only [Nat.zero_add, Nat.mul_zero, Nat.mul_one]
  · rw [load_at, Nat.zero_add, Nat.zero_add]

/-- The stick-breaking attention's result block. -/
theorem out7_apply : out0_7 (F := Ideal) x0 x1 x2 x3 x4 x5 (ix3 (0 : Fin 1) R c)
    = ∑ j : Fin (keys R.val), weight2 R.val (narrowScore x3 x4 (c.val / 64) R.val) (keys R.val) j.val * at3 x5 j.val c.val := by
  have hR := R.isLt
  rw [stored7]
  by_cases h3 : 1536 ≤ R.val
  · rw [store_hit _ _ _ R c ⟨R.val - 1536, by omega⟩ (by show R.val = 1536 + (R.val - 1536); omega), show keys R.val = 2048 by unfold keys; omega]
    refine stickBlock_apply 0 ⟨R.val - 1536, by omega⟩ c R.val (fun j => at3 x5 j c.val) 6 2048 rfl _ _ _ (by show R.val = 1536 + (R.val - 1536); omega) (at3 x3 R.val) (at3 x4) (fun l => ?_) (fun j l => ?_) (fun j => ?_)
    · rw [load_at, Nat.zero_add]; show at3 x3 (1536 + (R.val - 1536)) _ = _; rw [show 1536 + (R.val - 1536) = R.val by omega]
    · rw [load_at, Nat.zero_add, Nat.zero_add]
    · rw [load_at, Nat.zero_add, Nat.zero_add]
  rw [store_miss _ _ _ R c (by omega)]
  by_cases h2 : 1024 ≤ R.val
  · rw [store_hit _ _ _ R c ⟨R.val - 1024, by omega⟩ (by show R.val = 1024 + (R.val - 1024); omega), show keys R.val = 1536 by unfold keys; omega]
    refine stickBlock_apply 0 ⟨R.val - 1024, by omega⟩ c R.val (fun j => at3 x5 j c.val) 4 1536 rfl _ _ _ (by show R.val = 1024 + (R.val - 1024); omega) (at3 x3 R.val) (at3 x4) (fun l => ?_) (fun j l => ?_) (fun j => ?_)
    · rw [load_at, Nat.zero_add]; show at3 x3 (1024 + (R.val - 1024)) _ = _; rw [show 1024 + (R.val - 1024) = R.val by omega]
    · rw [load_at, Nat.zero_add, Nat.zero_add]
    · rw [load_at, Nat.zero_add, Nat.zero_add]
  rw [store_miss _ _ _ R c (by omega)]
  by_cases h1 : 512 ≤ R.val
  · rw [store_hit _ _ _ R c ⟨R.val - 512, by omega⟩ (by show R.val = 512 + (R.val - 512); omega), show keys R.val = 1024 by unfold keys; omega]
    refine stickBlock_apply 0 ⟨R.val - 512, by omega⟩ c R.val (fun j => at3 x5 j c.val) 2 1024 rfl _ _ _ (by show R.val = 512 + (R.val - 512); omega) (at3 x3 R.val) (at3 x4) (fun l => ?_) (fun j l => ?_) (fun j => ?_)
    · rw [load_at, Nat.zero_add]; show at3 x3 (512 + (R.val - 512)) _ = _; rw [show 512 + (R.val - 512) = R.val by omega]
    · rw [load_at, Nat.zero_add, Nat.zero_add]
    · rw [load_at, Nat.zero_add, Nat.zero_add]
  rw [store_miss _ _ _ R c (by omega)]
  rw [store_hit _ _ _ R c ⟨R.val, by omega⟩ (Nat.zero_add _).symm, show keys R.val = 512 by unfold keys; omega]
  refine stickBlock_apply 0 ⟨R.val, by omega⟩ c R.val (fun j => at3 x5 j c.val) 0 512 rfl _ _ _ (by show R.val = 256 * 0 + R.val; omega) (at3 x3 R.val) (at3 x4) (fun l => ?_) (fun j l => ?_) (fun j => ?_)
  · rw [load_at, Nat.zero_add, Nat.zero_add]
  · rw [load_at, Nat.zero_add, Nat.zero_add]
  · rw [load_at, Nat.zero_add, Nat.zero_add]

end Cert.Attn
-- ==== Proof.Entry.lean ====
/- What the kernel's launch finds in its operands' arrays: the arguments, scaled, padded and laid out by head. -/
module

public import proofs.«01_k».proof.Proof.BlockValues
public import proofs.«01_k».proof.Proof.Gen.KernelIdeal.Value
public import Idealize.ShloMosaic.Lib.Claim

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The scale of the queries of latent attention. -/
def wideScale : FVec Ideal S_ .f32 :=
  Host.divf (constant S_ .f32 0x3F800000#32) (mulf (Host.sqrt (constant S_ .f32 0x42C00000#32)) (Host.log (constant S_ .f32 0x40000000#32)))

/-- The scale of the queries of stick-breaking attention. -/
def narrowScale : FVec Ideal S_ .f32 :=
  Host.divf (constant S_ .f32 0x3E000000#32) (Host.log (constant S_ .f32 0x40000000#32))

/-- Heads padded with 32 zero lanes and laid side by side. -/
def wideLay (x : FVec Ideal S32x2048x8x96 .f32) : FVec Ideal S32x2048x1024 .bf16 :=
  shapeCast S32x2048x1024 (truncf .bf16 (pad S32x2048x8x128 ![0, 0, 0, 0] ![0, 0, 0, 32] ![0, 0, 0, 0] x (sitofp .f32 (constantI S_ 32 0#32) : FVec Ideal S_ .f32) pads_S32x2048x8x96_S32x2048x8x128_000_000_000_0320 h_S_) bitsLt_bf16_f32) shapeCasts_S32x2048x8x128_S32x2048x1024

/-- Heads laid side by side. -/
def narrowLay (x : FVec Ideal S32x2048x8x64 .f32) : FVec Ideal S32x2048x512 .bf16 :=
  shapeCast S32x2048x512 (truncf .bf16 x bitsLt_bf16_f32) shapeCasts_S32x2048x8x64_S32x2048x512

/-- The queries of latent attention: scaled, padded. -/
theorem entry18 : V m c main_v18 = wideLay (mulf (m ((c : Thread nD τ).loc main_arg0)) (broadcastInDim S32x2048x8x96 ![] bcast_S_S32x2048x8x96 wideScale)) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The keys of latent attention: padded. -/
theorem entry19 : V m c main_v19 = wideLay (m ((c : Thread nD τ).loc main_arg1)) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The values of latent attention. -/
theorem entry20 : V m c main_v20 = narrowLay (m ((c : Thread nD τ).loc main_arg2)) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The queries of stick-breaking attention: scaled. -/
theorem entry21 : V m c main_v21 = narrowLay (mulf (m ((c : Thread nD τ).loc main_arg3)) (broadcastInDim S32x2048x8x64 ![] bcast_S_S32x2048x8x64 narrowScale)) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The keys of stick-breaking attention. -/
theorem entry22 : V m c main_v22 = narrowLay (m ((c : Thread nD τ).loc main_arg4)) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The values of stick-breaking attention. -/
theorem entry23 : V m c main_v23 = narrowLay (m ((c : Thread nD τ).loc main_arg5)) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-! ## The layouts at an index -/

/-- An argument's element at four natural numbers, zero outside the array. -/
def arg4 {n : ℕ} (x : FVec Ideal (⟨4, ![32, 2048, 8, n]⟩ : Shape) .f32) (b i h l : ℕ) : EReal :=
  if p : b < 32 ∧ i < 2048 ∧ h < 8 ∧ l < n then x (ix4 ⟨b, p.1⟩ ⟨i, p.2.1⟩ ⟨h, p.2.2.1⟩ ⟨l, p.2.2.2⟩) else 0

/-- An operand's element at three natural numbers, zero outside the array. -/
def arr3 {n : ℕ} (x : FVec Ideal (⟨3, ![32, 2048, n]⟩ : Shape) .bf16) (b i l : ℕ) : EReal :=
  if p : b < 32 ∧ i < 2048 ∧ l < n then x (ix3 ⟨b, p.1⟩ ⟨i, p.2.1⟩ ⟨l, p.2.2⟩) else 0

theorem wideLay_at (x : FVec Ideal S32x2048x8x96 .f32) (b i h l : ℕ) (hh : h < 8) (hl : l < 128) :
    arr3 (wideLay x) b i (128 * h + l) = arg4 x b i h l := by
  unfold arr3 arg4
  by_cases hb : b < 32 ∧ i < 2048
  · have p : b < 32 ∧ i < 2048 ∧ 128 * h + l < 1024 := ⟨hb.1, hb.2, by omega⟩
    rw [dif_pos p]
    have e : wideLay x (ix3 ⟨b, p.1⟩ ⟨i, p.2.1⟩ ⟨128 * h + l, p.2.2⟩)
        = pad S32x2048x8x128 ![0, 0, 0, 0] ![0, 0, 0, 32] ![0, 0, 0, 0] x (sitofp .f32 (constantI S_ 32 0#32) : FVec Ideal S_ .f32)
            pads_S32x2048x8x96_S32x2048x8x128_000_000_000_0320 h_S_ (ix4 ⟨b, p.1⟩ ⟨i, p.2.1⟩ ⟨h, hh⟩ ⟨l, hl⟩) := by
      unfold wideLay
      rw [shapeCast_apply _ _ _ (ix4 ⟨b, p.1⟩ ⟨i, p.2.1⟩ ⟨h, hh⟩ ⟨l, hl⟩) (by
        rw [Shape.rowMajor_val_four, Shape.rowMajor_val_three]
        show ((b * 2048 + i) * 8 + h) * 128 + l = (b * 2048 + i) * 1024 + (128 * h + l)
        omega)]
      rfl
    rw [e]
    by_cases hl' : l < 96
    · rw [dif_pos ⟨hb.1, hb.2, hh, hl'⟩]
      exact pad_apply_of_inside _ _ _ _ _ _ _ _ (ix4 ⟨b, hb.1⟩ ⟨i, hb.2⟩ ⟨h, hh⟩ ⟨l, hl'⟩) fun a => by
        match a with
        | ⟨0, _⟩ => show b = 0 + b * (0 + 1); omega
        | ⟨1, _⟩ => show i = 0 + i * (0 + 1); omega
        | ⟨2, _⟩ => show h = 0 + h * (0 + 1); omega
        | ⟨3, _⟩ => show l = 0 + l * (0 + 1); omega
    · rw [dif_neg fun q => hl' q.2.2.2, pad_apply_of_not_inside _ _ _ _ _ _ _ _ (3 : Fin 4) fun q => by
        have h3 : (l - 0) / (0 + 1) < 96 := q.2.2
        omega]
      show (((0#32).toInt : ℝ) : EReal) = 0
      simp
  · rw [dif_neg fun q => hb ⟨q.1, q.2.1⟩, dif_neg fun q => hb ⟨q.1, q.2.1⟩]

theorem narrowLay_at (x : FVec Ideal S32x2048x8x64 .f32) (b i h l : ℕ) (hh : h < 8) (hl : l < 64) :
    arr3 (narrowLay x) b i (64 * h + l) = arg4 x b i h l := by
  unfold arr3 arg4
  by_cases hb : b < 32 ∧ i < 2048
  · rw [dif_pos ⟨hb.1, hb.2, by omega⟩, dif_pos ⟨hb.1, hb.2, hh, hl⟩]
    unfold narrowLay
    rw [shapeCast_apply _ _ _ (ix4 ⟨b, hb.1⟩ ⟨i, hb.2⟩ ⟨h, hh⟩ ⟨l, hl⟩) (by
      rw [Shape.rowMajor_val_four, Shape.rowMajor_val_three]
      show ((b * 2048 + i) * 8 + h) * 64 + l = (b * 2048 + i) * 512 + (64 * h + l)
      omega)]
    rfl
  · rw [dif_neg fun q => hb ⟨q.1, q.2.1⟩, dif_neg fun q => hb ⟨q.1, q.2.1⟩]

/-- A scaled argument's element. -/
theorem scaled_at {n : ℕ} (x : FVec Ideal (⟨4, ![32, 2048, 8, n]⟩ : Shape) .f32) (s : FVec Ideal S_ .f32)
    (hb : S_.BroadcastsInDim (⟨4, ![32, 2048, 8, n]⟩ : Shape) (![] : Fin 0 → Fin 4)) (b i h l : ℕ) :
    arg4 (mulf x (broadcastInDim (⟨4, ![32, 2048, 8, n]⟩ : Shape) ![] hb s)) b i h l = arg4 x b i h l * (s (Shape.Idx.first h_S_) : EReal) := by
  unfold arg4
  by_cases p : b < 32 ∧ i < 2048 ∧ h < 8 ∧ l < n
  · rw [dif_pos p, dif_pos p]
    refine congrArg (fun z : EReal => (x _ : EReal) * z) ?_
    exact congrArg s (funext fun a => a.elim0)
  · rw [dif_neg p, dif_neg p, zero_mul]

/-! ## The blocks at an index -/

/-- The grid's first coordinate is the batch, its second the pair of heads. -/
theorem win_index : ∀ t : Fin grid0.N,
    win0_0.index t = ![(grid0.coords t 0).val, 0, (grid0.coords t 1).val] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, 0, (grid0.coords t 1).val] ∧ win0_5.index t = ![(grid0.coords t 0).val, 0, (grid0.coords t 1).val]
    ∧ win0_6.index t = ![(grid0.coords t 0).val, 0, (grid0.coords t 1).val] ∧ win0_7.index t = ![(grid0.coords t 0).val, 0, (grid0.coords t 1).val] := by
  decide +kernel

theorem coords_lt : ∀ t : Fin grid0.N, (grid0.coords t 0).val < 32 ∧ (grid0.coords t 1).val < 4 := by decide +kernel

end Cert.Attn
-- ==== Proof.Arrays.lean ====
/- The kernel's two result arrays, as functions of its arguments. -/
module

public import proofs.«01_k».proof.Proof.Entry
public import Idealize.ShloMosaic.Lib.Pipeline.ValueKit

@[expose] public section

set_option maxRecDepth 16384

noncomputable section

namespace Cert.Attn

open Idealize.ShloMosaic Idealize.ShloMosaic.TcCoe Idealize.SL.Sem
open Cert.KernelIdeal Cert.KernelIdeal.Gen
open scoped BigOperators

theorem read0 (t : Fin cfg0.N) (Y : FVec Ideal S32x2048x1024 .bf16) (y : S1x2048x256.Idx) :
    (win0_0.blk t).view.read (Elt Ideal) Y y = Y ((win0_0.blk t).view.emb y) := rfl

theorem emb0 (t : Fin cfg0.N) (y : S1x2048x256.Idx) (a : Fin 3) :
    (((win0_0.blk t).view.emb y) a : ℕ) = win0_0.index t a * S1x2048x256.size a + 1 * (y a).val := rfl

/-- An element of a block of operand 0 is its array's. -/
theorem block0_at (t : Fin cfg0.N) (Y : FVec Ideal S32x2048x1024 .bf16) (i l : ℕ) (hl : l < 256) :
    at3 (a := 2048) (b := 256) ((win0_0.blk t).view.read (Elt Ideal) Y) i l = arr3 (n := 1024) Y (grid0.coords t 0).val i (256 * (grid0.coords t 1).val + l) := by
  have ht := coords_lt t
  have e := (win_index t).1
  have e0 : win0_0.index t 0 = (grid0.coords t 0).val := congrFun e 0
  have e1 : win0_0.index t 1 = 0 := congrFun e 1
  have e2 : win0_0.index t 2 = (grid0.coords t 1).val := congrFun e 2
  unfold at3 arr3
  by_cases hi : i < 2048
  · rw [dif_pos ⟨hi, hl⟩, dif_pos ⟨ht.1, hi, by omega⟩, read0]
    refine congrArg Y (funext fun a => Fin.ext ?_)
    rw [emb0]
    match a with
    | ⟨0, _⟩ => show win0_0.index t 0 * 1 + 1 * 0 = (grid0.coords t 0).val; omega
    | ⟨1, _⟩ => show win0_0.index t 1 * 2048 + 1 * i = i; omega
    | ⟨2, _⟩ => show win0_0.index t 2 * 256 + 1 * l = 256 * (grid0.coords t 1).val + l; omega
  · rw [dif_neg fun q => hi q.1, dif_neg fun q => hi q.2.1]

theorem read1 (t : Fin cfg0.N) (Y : FVec Ideal S32x2048x1024 .bf16) (y : S1x2048x256.Idx) :
    (win0_1.blk t).view.read (Elt Ideal) Y y = Y ((win0_1.blk t).view.emb y) := rfl

theorem emb1 (t : Fin cfg0.N) (y : S1x2048x256.Idx) (a : Fin 3) :
    (((win0_1.blk t).view.emb y) a : ℕ) = win0_1.index t a * S1x2048x256.size a + 1 * (y a).val := rfl

/-- An element of a block of operand 1 is its array's. -/
theorem block1_at (t : Fin cfg0.N) (Y : FVec Ideal S32x2048x1024 .bf16) (i l : ℕ) (hl : l < 256) :
    at3 (a := 2048) (b := 256) ((win0_1.blk t).view.read (Elt Ideal) Y) i l = arr3 (n := 1024) Y (grid0.coords t 0).val i (256 * (grid0.coords t 1).val + l) := by
  have ht := coords_lt t
  have e := (win_index t).2.1
  have e0 : win0_1.index t 0 = (grid0.coords t 0).val := congrFun e 0
  have e1 : win0_1.index t 1 = 0 := congrFun e 1
  have e2 : win0_1.index t 2 = (grid0.coords t 1).val := congrFun e 2
  unfold at3 arr3
  by_cases hi : i < 2048
  · rw [dif_pos ⟨hi, hl⟩, dif_pos ⟨ht.1, hi, by omega⟩, read1]
    refine congrArg Y (funext fun a => Fin.ext ?_)
    rw [emb1]
    match a with
    | ⟨0, _⟩ => show win0_1.index t 0 * 1 + 1 * 0 = (grid0.coords t 0).val; omega
    | ⟨1, _⟩ => show win0_1.index t 1 * 2048 + 1 * i = i; omega
    | ⟨2, _⟩ => show win0_1.index t 2 * 256 + 1 * l = 256 * (grid0.coords t 1).val + l; omega
  · rw [dif_neg fun q => hi q.1, dif_neg fun q => hi q.2.1]

theorem read2 (t : Fin cfg0.N) (Y : FVec Ideal S32x2048x512 .bf16) (y : S1x2048x128.Idx) :
    (win0_2.blk t).view.read (Elt Ideal) Y y = Y ((win0_2.blk t).view.emb y) := rfl

theorem emb2 (t : Fin cfg0.N) (y : S1x2048x128.Idx) (a : Fin 3) :
    (((win0_2.blk t).view.emb y) a : ℕ) = win0_2.index t a * S1x2048x128.size a + 1 * (y a).val := rfl

/-- An element of a block of operand 2 is its array's. -/
theorem block2_at (t : Fin cfg0.N) (Y : FVec Ideal S32x2048x512 .bf16) (i l : ℕ) (hl : l < 128) :
    at3 (a := 2048) (b := 128) ((win0_2.blk t).view.read (Elt Ideal) Y) i l = arr3 (n := 512) Y (grid0.coords t 0).val i (128 * (grid0.coords t 1).val + l) := by
  have ht := coords_lt t
  have e := (win_index t).2.2.1
  have e0 : win0_2.index t 0 = (grid0.coords t 0).val := congrFun e 0
  have e1 : win0_2.index t 1 = 0 := congrFun e 1
  have e2 : win0_2.index t 2 = (grid0.coords t 1).val := congrFun e 2
  unfold at3 arr3
  by_cases hi : i < 2048
  · rw [dif_pos ⟨hi, hl⟩, dif_pos ⟨ht.1, hi, by omega⟩, read2]
    refine congrArg Y (funext fun a => Fin.ext ?_)
    rw [emb2]
    match a with
    | ⟨0, _⟩ => show win0_2.index t 0 * 1 + 1 * 0 = (grid0.coords t 0).val; omega
    | ⟨1, _⟩ => show win0_2.index t 1 * 2048 + 1 * i = i; omega
    | ⟨2, _⟩ => show win0_2.index t 2 * 128 + 1 * l = 128 * (grid0.coords t 1).val + l; omega
  · rw [dif_neg fun q => hi q.1, dif_neg fun q => hi q.2.1]

theorem read3 (t : Fin cfg0.N) (Y : FVec Ideal S32x2048x512 .bf16) (y : S1x2048x128.Idx) :
    (win0_3.blk t).view.read (Elt Ideal) Y y = Y ((win0_3.blk t).view.emb y) := rfl

theorem emb3 (t : Fin cfg0.N) (y : S1x2048x128.Idx) (a : Fin 3) :
    (((win0_3.blk t).view.emb y) a : ℕ) = win0_3.index t a * S1x2048x128.size a + 1 * (y a).val := rfl

/-- An element of a block of operand 3 is its array's. -/
theorem block3_at (t : Fin cfg0.N) (Y : FVec Ideal S32x2048x512 .bf16) (i l : ℕ) (hl : l < 128) :
    at3 (a := 2048) (b := 128) ((win0_3.blk t).view.read (Elt Ideal) Y) i l = arr3 (n := 512) Y (grid0.coords t 0).val i (128 * (grid0.coords t 1).val + l) := by
  have ht := coords_lt t
  have e := (win_index t).2.2.2.1
  have e0 : win0_3.index t 0 = (grid0.coords t 0).val := congrFun e 0
  have e1 : win0_3.index t 1 = 0 := congrFun e 1
  have e2 : win0_3.index t 2 = (grid0.coords t 1).val := congrFun e 2
  unfold at3 arr3
  by_cases hi : i < 2048
  · rw [dif_pos ⟨hi, hl⟩, dif_pos ⟨ht.1, hi, by omega⟩, read3]
    refine congrArg Y (funext fun a => Fin.ext ?_)
    rw [emb3]
    match a with
    | ⟨0, _⟩ => show win0_3.index t 0 * 1 + 1 * 0 = (grid0.coords t 0).val; omega
    | ⟨1, _⟩ => show win0_3.index t 1 * 2048 + 1 * i = i; omega
    | ⟨2, _⟩ => show win0_3.index t 2 * 128 + 1 * l = 128 * (grid0.coords t 1).val + l; omega
  · rw [dif_neg fun q => hi q.1, dif_neg fun q => hi q.2.1]

theorem read4 (t : Fin cfg0.N) (Y : FVec Ideal S32x2048x512 .bf16) (y : S1x2048x128.Idx) :
    (win0_4.blk t).view.read (Elt Ideal) Y y = Y ((win0_4.blk t).view.emb y) := rfl

theorem emb4 (t : Fin cfg0.N) (y : S1x2048x128.Idx) (a : Fin 3) :
    (((win0_4.blk t).view.emb y) a : ℕ) = win0_4.index t a * S1x2048x128.size a + 1 * (y a).val := rfl

/-- An element of a block of operand 4 is its array's. -/
theorem block4_at (t : Fin cfg0.N) (Y : FVec Ideal S32x2048x512 .bf16) (i l : ℕ) (hl : l < 128) :
    at3 (a := 2048) (b := 128) ((win0_4.blk t).view.read (Elt Ideal) Y) i l = arr3 (n := 512) Y (grid0.coords t 0).val i (128 * (grid0.coords t 1).val + l) := by
  have ht := coords_lt t
  have e := (win_index t).2.2.2.2.1
  have e0 : win0_4.index t 0 = (grid0.coords t 0).val := congrFun e 0
  have e1 : win0_4.index t 1 = 0 := congrFun e 1
  have e2 : win0_4.index t 2 = (grid0.coords t 1).val := congrFun e 2
  unfold at3 arr3
  by_cases hi : i < 2048
  · rw [dif_pos ⟨hi, hl⟩, dif_pos ⟨ht.1, hi, by omega⟩, read4]
    refine congrArg Y (funext fun a => Fin.ext ?_)
    rw [emb4]
    match a with
    | ⟨0, _⟩ => show win0_4.index t 0 * 1 + 1 * 0 = (grid0.coords t 0).val; omega
    | ⟨1, _⟩ => show win0_4.index t 1 * 2048 + 1 * i = i; omega
    | ⟨2, _⟩ => show win0_4.index t 2 * 128 + 1 * l = 128 * (grid0.coords t 1).val + l; omega
  · rw [dif_neg fun q => hi q.1, dif_neg fun q => hi q.2.1]

theorem read5 (t : Fin cfg0.N) (Y : FVec Ideal S32x2048x512 .bf16) (y : S1x2048x128.Idx) :
    (win0_5.blk t).view.read (Elt Ideal) Y y = Y ((win0_5.blk t).view.emb y) := rfl

theorem emb5 (t : Fin cfg0.N) (y : S1x2048x128.Idx) (a : Fin 3) :
    (((win0_5.blk t).view.emb y) a : ℕ) = win0_5.index t a * S1x2048x128.size a + 1 * (y a).val := rfl

/-- An element of a block of operand 5 is its array's. -/
theorem block5_at (t : Fin cfg0.N) (Y : FVec Ideal S32x2048x512 .bf16) (i l : ℕ) (hl : l < 128) :
    at3 (a := 2048) (b := 128) ((win0_5.blk t).view.read (Elt Ideal) Y) i l = arr3 (n := 512) Y (grid0.coords t 0).val i (128 * (grid0.coords t 1).val + l) := by
  have ht := coords_lt t
  have e := (win_index t).2.2.2.2.2.1
  have e0 : win0_5.index t 0 = (grid0.coords t 0).val := congrFun e 0
  have e1 : win0_5.index t 1 = 0 := congrFun e 1
  have e2 : win0_5.index t 2 = (grid0.coords t 1).val := congrFun e 2
  unfold at3 arr3
  by_cases hi : i < 2048
  · rw [dif_pos ⟨hi, hl⟩, dif_pos ⟨ht.1, hi, by omega⟩, read5]
    refine congrArg Y (funext fun a => Fin.ext ?_)
    rw [emb5]
    match a with
    | ⟨0, _⟩ => show win0_5.index t 0 * 1 + 1 * 0 = (grid0.coords t 0).val; omega
    | ⟨1, _⟩ => show win0_5.index t 1 * 2048 + 1 * i = i; omega
    | ⟨2, _⟩ => show win0_5.index t 2 * 128 + 1 * l = 128 * (grid0.coords t 1).val + l; omega
  · rw [dif_neg fun q => hi q.1, dif_neg fun q => hi q.2.1]

variable (m : (ℓ : Loc nD τ sig) → Buf (Elt Ideal) ℓ) (c : Dev nD)

theorem iblk0 (t : Fin cfg0.N) : iblk m c 0 t = (win0_0.blk t).view.read (Elt Ideal) (V m c main_v18) := rfl

theorem iblk1 (t : Fin cfg0.N) : iblk m c 1 t = (win0_1.blk t).view.read (Elt Ideal) (V m c main_v19) := rfl

theorem iblk2 (t : Fin cfg0.N) : iblk m c 2 t = (win0_2.blk t).view.read (Elt Ideal) (V m c main_v20) := rfl

theorem iblk3 (t : Fin cfg0.N) : iblk m c 3 t = (win0_3.blk t).view.read (Elt Ideal) (V m c main_v21) := rfl

theorem iblk4 (t : Fin cfg0.N) : iblk m c 4 t = (win0_4.blk t).view.read (Elt Ideal) (V m c main_v22) := rfl

theorem iblk5 (t : Fin cfg0.N) : iblk m c 5 t = (win0_5.blk t).view.read (Elt Ideal) (V m c main_v23) := rfl

/-- The kernel's latent attention: batch `b`, query `R`, head `h`, lane `d`. -/
def mlaKernel (q k : FVec Ideal S32x2048x8x96 .f32) (v : FVec Ideal S32x2048x8x64 .f32) (b R h d : ℕ) : EReal :=
  soft2 (keys R) (masked (seen R) fun j => ∑ l : Fin 128, arg4 q b R h l.val * (wideScale (Shape.Idx.first h_S_) : EReal) * arg4 k b j h l.val)
    fun j => arg4 v b j h d

/-- The kernel's stick-breaking attention. -/
def stickKernel (q k v : FVec Ideal S32x2048x8x64 .f32) (b R h d : ℕ) : EReal :=
  ∑ j : Fin (keys R), weight2 R (fun j => ∑ l : Fin 64, arg4 q b R h l.val * (narrowScale (Shape.Idx.first h_S_) : EReal) * arg4 k b j h l.val) (keys R) j.val
    * arg4 v b j.val h d

/-- A lane of a pair's block of narrow heads, by head and lane. -/
theorem lane_split (p c : ℕ) (hc : c < 128) : 128 * p + c = 64 * (2 * p + c / 64) + c % 64 := by omega

/-- The latent attention's block at a point. -/
theorem mla_point (t : Fin cfg0.N) (R : Fin 2048) (l : Fin 128) :
    out0_6 (F := Ideal) (iblk m c 0 t) (iblk m c 1 t) (iblk m c 2 t) (iblk m c 3 t) (iblk m c 4 t) (iblk m c 5 t) (ValueIdx.ix3 (0 : Fin 1) R l)
      = mlaKernel (m ((c : Thread nD τ).loc main_arg0)) (m ((c : Thread nD τ).loc main_arg1)) (m ((c : Thread nD τ).loc main_arg2))
          (grid0.coords t 0).val R.val (2 * (grid0.coords t 1).val + l.val / 64) (l.val % 64) := by
  have ht := coords_lt t
  have hl := l.isLt
  rw [out6_apply, iblk0, iblk1, iblk2, entry18, entry19, entry20]
  unfold mlaKernel
  congr 1
  · refine congrArg (masked (seen R.val)) (funext fun j => Finset.sum_congr rfl fun x _ => ?_)
    have hx := x.isLt
    rw [block0_at _ _ _ _ (by omega), block1_at _ _ _ _ (by omega),
      show 256 * (grid0.coords t 1).val + (128 * (l.val / 64) + x.val) = 128 * (2 * (grid0.coords t 1).val + l.val / 64) + x.val by omega,
      wideLay_at _ _ _ _ _ (by omega) hx, wideLay_at _ _ _ _ _ (by omega) hx, scaled_at]
  · funext j
    rw [block2_at _ _ _ _ hl, lane_split _ _ hl, narrowLay_at _ _ _ _ _ (by omega) (by omega)]

/-- The stick-breaking attention's block at a point. -/
theorem stick_point (t : Fin cfg0.N) (R : Fin 2048) (l : Fin 128) :
    out0_7 (F := Ideal) (iblk m c 0 t) (iblk m c 1 t) (iblk m c 2 t) (iblk m c 3 t) (iblk m c 4 t) (iblk m c 5 t) (ValueIdx.ix3 (0 : Fin 1) R l)
      = stickKernel (m ((c : Thread nD τ).loc main_arg3)) (m ((c : Thread nD τ).loc main_arg4)) (m ((c : Thread nD τ).loc main_arg5))
          (grid0.coords t 0).val R.val (2 * (grid0.coords t 1).val + l.val / 64) (l.val % 64) := by
  have ht := coords_lt t
  have hl := l.isLt
  rw [out7_apply, iblk3, iblk4, iblk5, entry21, entry22, entry23]
  unfold stickKernel
  have hz : ∀ j, narrowScore ((win0_3.blk t).view.read (Elt Ideal) (narrowLay (mulf (m ((c : Thread nD τ).loc main_arg3)) (broadcastInDim S32x2048x8x64 ![] bcast_S_S32x2048x8x64 narrowScale))))
      ((win0_4.blk t).view.read (Elt Ideal) (narrowLay (m ((c : Thread nD τ).loc main_arg4)))) (l.val / 64) R.val j
      = ∑ x : Fin 64, arg4 (m ((c : Thread nD τ).loc main_arg3)) (grid0.coords t 0).val R.val (2 * (grid0.coords t 1).val + l.val / 64) x.val
          * (narrowScale (Shape.Idx.first h_S_) : EReal) * arg4 (m ((c : Thread nD τ).loc main_arg4)) (grid0.coords t 0).val j (2 * (grid0.coords t 1).val + l.val / 64) x.val := by
    intro j
    refine Finset.sum_congr rfl fun x _ => ?_
    have hx := x.isLt
    rw [block3_at _ _ _ _ (by omega), block4_at _ _ _ _ (by omega),
      show 128 * (grid0.coords t 1).val + (64 * (l.val / 64) + x.val) = 64 * (2 * (grid0.coords t 1).val + l.val / 64) + x.val by omega,
      narrowLay_at _ _ _ _ _ (by omega) hx, narrowLay_at _ _ _ _ _ (by omega) hx, scaled_at]
  rw [funext hz]
  refine Finset.sum_congr rfl fun j _ => ?_
  rw [block5_at _ _ _ _ hl, lane_split _ _ hl, narrowLay_at _ _ _ _ _ (by omega) (by omega)]

/-- The first result array: latent attention, heads side by side. -/
def mlaArray : FVec Ideal S32x2048x512 .bf16 := fun i =>
  mlaKernel (m ((c : Thread nD τ).loc main_arg0)) (m ((c : Thread nD τ).loc main_arg1)) (m ((c : Thread nD τ).loc main_arg2))
    (i 0).val (i 1).val ((i 2).val / 64) ((i 2).val % 64)

/-- The second result array: stick-breaking attention, heads side by side. -/
def stickArray : FVec Ideal S32x2048x512 .bf16 := fun i =>
  stickKernel (m ((c : Thread nD τ).loc main_arg3)) (m ((c : Thread nD τ).loc main_arg4)) (m ((c : Thread nD τ).loc main_arg5))
    (i 0).val (i 1).val ((i 2).val / 64) ((i 2).val % 64)

/-- Every index of a block is a query and a lane. -/
theorem block_idx (y : S1x2048x128.Idx) : y = ValueIdx.ix3 (0 : Fin 1) (⟨(y 1).val, (y 1).isLt⟩ : Fin 2048) (⟨(y 2).val, (y 2).isLt⟩ : Fin 128) := by
  refine funext fun a => Fin.ext ?_
  match a with
  | ⟨0, _⟩ => have h : (y 0).val < 1 := (y 0).isLt; show (y 0).val = 0; omega
  | ⟨1, _⟩ => rfl
  | ⟨2, _⟩ => rfl

theorem emb6 (t : Fin cfg0.N) (y : S1x2048x128.Idx) (a : Fin 3) :
    (((win0_6.blk t).view.emb y) a : ℕ) = win0_6.index t a * S1x2048x128.size a + 1 * (y a).val := rfl

theorem mla_at (t : Fin cfg0.N) (y : S1x2048x128.Idx) :
    out0_6 (F := Ideal) (iblk m c 0 t) (iblk m c 1 t) (iblk m c 2 t) (iblk m c 3 t) (iblk m c 4 t) (iblk m c 5 t) y
      = mlaArray m c ((win0_6.blk t).view.emb y) := by
  have ht := coords_lt t
  have e := (win_index t).2.2.2.2.2.2.1
  have e0 : win0_6.index t 0 = (grid0.coords t 0).val := congrFun e 0
  have e1 : win0_6.index t 1 = 0 := congrFun e 1
  have e2 : win0_6.index t 2 = (grid0.coords t 1).val := congrFun e 2
  have y0 : (y 0).val < 1 := (y 0).isLt
  have y2 : (y 2).val < 128 := (y 2).isLt
  have h0 : (((win0_6.blk t).view.emb y) 0 : ℕ) = (grid0.coords t 0).val := by
    rw [emb6]; show win0_6.index t 0 * 1 + 1 * (y 0).val = _; omega
  have h1 : (((win0_6.blk t).view.emb y) 1 : ℕ) = (y 1).val := by
    rw [emb6]; show win0_6.index t 1 * 2048 + 1 * (y 1).val = _; omega
  have h2 : (((win0_6.blk t).view.emb y) 2 : ℕ) = 128 * (grid0.coords t 1).val + (y 2).val := by
    rw [emb6]; show win0_6.index t 2 * 128 + 1 * (y 2).val = _; omega
  unfold mlaArray
  rw [h0, h1, h2]
  refine (congrArg _ (block_idx y)).trans ((mla_point m c t _ _).trans ?_)
  dsimp only
  rw [show (128 * (grid0.coords t 1).val + (y 2).val) / 64 = 2 * (grid0.coords t 1).val + (y 2).val / 64 by omega,
    show (128 * (grid0.coords t 1).val + (y 2).val) % 64 = (y 2).val % 64 by omega]

/-- The result array of window 6 after the run, when every block written is the block of `G`. -/
theorem final6_of (G : FVec Ideal S32x2048x512 .bf16)
    (hG : ∀ (t : Fin cfg0.N) (y : S1x2048x128.Idx), (dats m 0 c).after 6 t y = G ((win0_6.blk t).view.emb y)) :
    (dats m 0 c).arrAt 6 cfg0.N = G :=
  (dats m 0 c).arrAt_eq_of_covers 6 G (by decide +kernel) fun t _ y => hG t y

/-- The result array of window 6 after the run. -/
theorem final6 : (dats m 0 c).arrAt 6 cfg0.N = mlaArray m c :=
  final6_of m c _ fun t y => by
    rw [after0_6]
    exact mla_at m c t y

theorem emb7 (t : Fin cfg0.N) (y : S1x2048x128.Idx) (a : Fin 3) :
    (((win0_7.blk t).view.emb y) a : ℕ) = win0_7.index t a * S1x2048x128.size a + 1 * (y a).val := rfl

theorem stick_at (t : Fin cfg0.N) (y : S1x2048x128.Idx) :
    out0_7 (F := Ideal) (iblk m c 0 t) (iblk m c 1 t) (iblk m c 2 t) (iblk m c 3 t) (iblk m c 4 t) (iblk m c 5 t) y
      = stickArray m c ((win0_7.blk t).view.emb y) := by
  have ht := coords_lt t
  have e := (win_index t).2.2.2.2.2.2.2
  have e0 : win0_7.index t 0 = (grid0.coords t 0).val := congrFun e 0
  have e1 : win0_7.index t 1 = 0 := congrFun e 1
  have e2 : win0_7.index t 2 = (grid0.coords t 1).val := congrFun e 2
  have y0 : (y 0).val < 1 := (y 0).isLt
  have y2 : (y 2).val < 128 := (y 2).isLt
  have h0 : (((win0_7.blk t).view.emb y) 0 : ℕ) = (grid0.coords t 0).val := by
    rw [emb7]; show win0_7.index t 0 * 1 + 1 * (y 0).val = _; omega
  have h1 : (((win0_7.blk t).view.emb y) 1 : ℕ) = (y 1).val := by
    rw [emb7]; show win0_7.index t 1 * 2048 + 1 * (y 1).val = _; omega
  have h2 : (((win0_7.blk t).view.emb y) 2 : ℕ) = 128 * (grid0.coords t 1).val + (y 2).val := by
    rw [emb7]; show win0_7.index t 2 * 128 + 1 * (y 2).val = _; omega
  unfold stickArray
  rw [h0, h1, h2]
  refine (congrArg _ (block_idx y)).trans ((stick_point m c t _ _).trans ?_)
  dsimp only
  rw [show (128 * (grid0.coords t 1).val + (y 2).val) / 64 = 2 * (grid0.coords t 1).val + (y 2).val / 64 by omega,
    show (128 * (grid0.coords t 1).val + (y 2).val) % 64 = (y 2).val % 64 by omega]

/-- The result array of window 7 after the run, when every block written is the block of `G`. -/
theorem final7_of (G : FVec Ideal S32x2048x512 .bf16)
    (hG : ∀ (t : Fin cfg0.N) (y : S1x2048x128.Idx), (dats m 0 c).after 7 t y = G ((win0_7.blk t).view.emb y)) :
    (dats m 0 c).arrAt 7 cfg0.N = G :=
  (dats m 0 c).arrAt_eq_of_covers 7 G (by decide +kernel) fun t _ y => hG t y

/-- The result array of window 7 after the run. -/
theorem final7 : (dats m 0 c).arrAt 7 cfg0.N = stickArray m c :=
  final7_of m c _ fun t y => by
    rw [after0_7]
    exact stick_at m c t y

end Cert.Attn
-- ==== Proof.Agree.lean ====
/- The kernel's two attentions are the textbook ones. -/
module

public import proofs.«01_k».proof.Proof.Arrays

@[expose] public section

set_option maxRecDepth 16384

noncomputable section

namespace Cert.Attn

open Idealize.ShloMosaic Idealize.ShloMosaic.TcCoe
open Cert.KernelIdeal Cert.KernelIdeal.Gen
open scoped BigOperators

/-- The word of 96. -/
theorem word96 : Ideal.ofBits .f32 0x42C00000#32 = ((96 : ℝ) : EReal) := by
  simp [Ideal.ofBits, Ideal.ieee, -EReal.coe_mul]; norm_num

/-- The word of 2. -/
theorem word2 : Ideal.ofBits .f32 0x40000000#32 = ((2 : ℝ) : EReal) := by
  simp [Ideal.ofBits, Ideal.ieee, -EReal.coe_mul]; norm_num

/-- The word of one eighth. -/
theorem word8 : Ideal.ofBits .f32 0x3E000000#32 = ((1 / 8 : ℝ) : EReal) := by
  simp [Ideal.ofBits, Ideal.ieee, -EReal.coe_mul]; norm_num

theorem log2_word : Ideal.log (Ideal.ofBits .f32 0x40000000#32) = ((Real.log 2 : ℝ) : EReal) := by
  rw [word2, Ideal.log_coe, if_neg (by norm_num)]

theorem sqrt96_word : Ideal.sqrt (Ideal.ofBits .f32 0x42C00000#32) = ((Real.sqrt 96 : ℝ) : EReal) := by
  rw [word96, Ideal.sqrt_coe, if_neg (by norm_num)]

theorem sqrt96_pos : 0 < Real.sqrt 96 := Real.sqrt_pos.2 (by norm_num)

/-- The scale of latent attention's queries. -/
theorem wide_word (i : S_.Idx) : (wideScale i : EReal) = ((1 / Real.sqrt 96 * (Real.log 2)⁻¹ : ℝ) : EReal) := by
  show Ideal.div (Scalar.ofBits .f32 0x3F800000#32 : Ideal .f32) (Ideal.sqrt (Ideal.ofBits .f32 0x42C00000#32) * Ideal.log (Ideal.ofBits .f32 0x40000000#32)) = _
  rw [one_word, sqrt96_word, log2_word, ← EReal.coe_mul, Ideal.div_coe (mul_pos sqrt96_pos log_two_pos).ne', one_mul]
  congr 1
  have := sqrt96_pos.ne'
  have := log_two_pos.ne'
  field_simp

/-- The scale of stick-breaking attention's queries. -/
theorem narrow_word (i : S_.Idx) : (narrowScale i : EReal) = ((1 / 8 * (Real.log 2)⁻¹ : ℝ) : EReal) := by
  show Ideal.div (Ideal.ofBits .f32 0x3E000000#32) (Ideal.log (Ideal.ofBits .f32 0x40000000#32)) = _
  rw [log2_word, word8, Ideal.div_coe log_two_pos.ne', ← EReal.coe_mul]
  congr 1
  rw [one_div (Real.log 2)]

/-- Latent attention: the softmax, over the keys of the query's chunk of 64 and of earlier chunks, of the scores over the
    root of 96, times the values. -/
def mlaRef (q k : FVec Ideal S32x2048x8x96 .f32) (v : FVec Ideal S32x2048x8x64 .f32) (b R h d : ℕ) : EReal :=
  soft 2048 (masked (seen R) fun j => Ideal.div (∑ l : Fin 96, arg4 q b R h l.val * arg4 k b j h l.val) (Ideal.sqrt (Ideal.ofBits .f32 0x42C00000#32)))
    fun j => arg4 v b j h d

/-- Stick-breaking attention over the keys before the query. -/
def stickRef (q k v : FVec Ideal S32x2048x8x64 .f32) (b R h d : ℕ) : EReal :=
  ∑ j : Fin 2048, stick R (fun j => (∑ l : Fin 64, arg4 q b R h l.val * arg4 k b j h l.val) * Ideal.ofBits .f32 0x3E000000#32) 2048 j.val * arg4 v b j.val h d

/-- A real array's elements are real. -/
theorem arg4_real {n : ℕ} (x : FVec Ideal (⟨4, ![32, 2048, 8, n]⟩ : Shape) .f32) (hx : ∀ i, ∃ r : ℝ, (x i : EReal) = (r : EReal)) (b i h l : ℕ) :
    arg4 x b i h l = ((arg4 x b i h l).toReal : EReal) := by
  unfold arg4
  split
  · obtain ⟨r, hr⟩ := hx (ix4 ⟨b, ‹b < 32 ∧ i < 2048 ∧ h < 8 ∧ l < n›.1⟩ ⟨i, ‹b < 32 ∧ i < 2048 ∧ h < 8 ∧ l < n›.2.1⟩ ⟨h, ‹b < 32 ∧ i < 2048 ∧ h < 8 ∧ l < n›.2.2.1⟩ ⟨l, ‹b < 32 ∧ i < 2048 ∧ h < 8 ∧ l < n›.2.2.2⟩)
    rw [hr, EReal.toReal_coe]
  · rw [EReal.toReal_zero]; rfl

/-- The padding lanes add nothing. -/
theorem pad_sum (q k : FVec Ideal S32x2048x8x96 .f32) (s : EReal) (b R j h : ℕ) :
    ∑ l : Fin 128, arg4 q b R h l.val * s * arg4 k b j h l.val = ∑ l : Fin 96, arg4 q b R h l.val * s * arg4 k b j h l.val := by
  rw [Fin.sum_univ_add (a := 96) (b := 32) (fun l : Fin 128 => arg4 q b R h l.val * s * arg4 k b j h l.val)]
  rw [Finset.sum_eq_zero (s := Finset.univ) (f := fun i : Fin 32 => arg4 q b R h (Fin.natAdd 96 i).val * s * arg4 k b j h (Fin.natAdd 96 i).val), add_zero]
  · rfl
  · intro l _
    have e : arg4 k b j h (Fin.natAdd 96 l).val = 0 := dif_neg fun p => by
      have := p.2.2.2; rw [Fin.val_natAdd] at this; omega
    rw [e, mul_zero]

theorem mla_agree (q k : FVec Ideal S32x2048x8x96 .f32) (v : FVec Ideal S32x2048x8x64 .f32)
    (hq : ∀ i, ∃ r : ℝ, (q i : EReal) = (r : EReal)) (hk : ∀ i, ∃ r : ℝ, (k i : EReal) = (r : EReal)) (b R h d : ℕ) (hR : R < 2048) :
    mlaKernel q k v b R h d = mlaRef q k v b R h d := by
  unfold mlaKernel mlaRef
  let y : ℕ → ℝ := fun j => (∑ l : Fin 96, (arg4 q b R h l.val).toReal * (arg4 k b j h l.val).toReal) * (1 / Real.sqrt 96)
  have e1 : (fun j => ∑ l : Fin 128, arg4 q b R h l.val * (wideScale (Shape.Idx.first h_S_) : EReal) * arg4 k b j h l.val)
      = fun j => ((y j * (Real.log 2)⁻¹ : ℝ) : EReal) := by
    funext j
    rw [pad_sum, wide_word]
    have : ∀ l : Fin 96, arg4 q b R h l.val * ((1 / Real.sqrt 96 * (Real.log 2)⁻¹ : ℝ) : EReal) * arg4 k b j h l.val
        = (((arg4 q b R h l.val).toReal * (1 / Real.sqrt 96 * (Real.log 2)⁻¹) * (arg4 k b j h l.val).toReal : ℝ) : EReal) := fun l => by
      rw [EReal.coe_mul ((arg4 q b R h l.val).toReal * _), EReal.coe_mul (arg4 q b R h l.val).toReal, ← arg4_real q hq, ← arg4_real k hk]
    rw [Finset.sum_congr rfl fun l _ => this l, ← coe_sum]
    congr 1
    show _ = (∑ l : Fin 96, _) * _ * _
    rw [mul_assoc, Finset.sum_mul]
    exact Finset.sum_congr rfl fun l _ => by ring
  have e2 : (fun j => Ideal.div (∑ l : Fin 96, arg4 q b R h l.val * arg4 k b j h l.val) (Ideal.sqrt (Ideal.ofBits .f32 0x42C00000#32)))
      = fun j => ((y j : ℝ) : EReal) := by
    funext j
    have : ∀ l : Fin 96, arg4 q b R h l.val * arg4 k b j h l.val
        = (((arg4 q b R h l.val).toReal * (arg4 k b j h l.val).toReal : ℝ) : EReal) := fun l => by
      rw [EReal.coe_mul, ← arg4_real q hq, ← arg4_real k hk]
    rw [Finset.sum_congr rfl fun l _ => this l, ← coe_sum, sqrt96_word, Ideal.div_coe sqrt96_pos.ne', ← EReal.coe_mul]
  rw [e1, e2]
  refine soft2_eq (keys R) 2048 (by unfold keys; omega) (seen R) y _ R (by unfold keys; omega) (le_refl _) fun j hj => ?_
  show ¬ (j / 64 ≤ R / 64)
  unfold keys at hj
  omega

theorem stick_agree (q k v : FVec Ideal S32x2048x8x64 .f32) (b R h d : ℕ) (hR : R < 2048) :
    stickKernel q k v b R h d = stickRef q k v b R h d := by
  unfold stickKernel stickRef
  have hk : R < keys R ∧ keys R ≤ 2048 ∧ 256 ∣ keys R := ⟨by unfold keys; omega, by unfold keys; omega, ⟨2 * (R / 512) + 2, by unfold keys; omega⟩⟩
  have e1 : (fun j => ∑ l : Fin 64, arg4 q b R h l.val * (narrowScale (Shape.Idx.first h_S_) : EReal) * arg4 k b j h l.val)
      = fun j => (∑ l : Fin 64, arg4 q b R h l.val * arg4 k b j h l.val) * Ideal.ofBits .f32 0x3E000000#32 * (((Real.log 2)⁻¹ : ℝ) : EReal) := by
    funext j
    rw [narrow_word, word8, mul_assoc, ← EReal.coe_mul, sum_mul_const _ _ (mul_nonneg (by norm_num) (inv_pos.2 log_two_pos).le)]
    exact Finset.sum_congr rfl fun l _ => mul_right_comm _ _ _
  rw [e1]
  rw [Fin.sum_univ_eq_sum_range (fun j => weight2 R (fun j => (∑ l : Fin 64, arg4 q b R h l.val * arg4 k b j h l.val) * Ideal.ofBits .f32 0x3E000000#32 * (((Real.log 2)⁻¹ : ℝ) : EReal)) (keys R) j * arg4 v b j h d) (keys R),
    Fin.sum_univ_eq_sum_range (fun j => stick R (fun j => (∑ l : Fin 64, arg4 q b R h l.val * arg4 k b j h l.val) * Ideal.ofBits .f32 0x3E000000#32) 2048 j * arg4 v b j h d) 2048]
  rw [← Finset.sum_subset (Finset.range_subset_range.2 hk.2.1) (fun j _ hj => by
    have : ¬ j < R := fun h' => hj (Finset.mem_range.2 (by omega))
    rw [stick, if_neg this, zero_mul])]
  refine Finset.sum_congr rfl fun j hj => ?_
  have hj := Finset.mem_range.1 hj
  rw [weight2, stick2_eq R _ 2048 (keys R) _ j (by omega) (by obtain ⟨x, hx⟩ := hk.2.2; omega) hk.2.1 hk.1.le]

end Cert.Attn
-- ==== Proof.Reference.lean ====
/- The reference's two results as compositions of a few named stages. -/
module

public import proofs.«01_k».proof.Proof.Gen.ReferenceIdeal.Run
public import proofs.«01_k».proof.Proof.Agree
public import Idealize.ShloMosaic.Lib.Pointwise
public import Idealize.ShloMosaic.Lib.KernelVsHost

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Value

/-- A table of scores: batch, head, query, key. -/
abbrev Tab := FVec Ideal S32x8x2048x2048 .f32

/-- Each position's chunk of 64. -/
def chunk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- A vector along the keys. -/
def alongKeys (x : IVec S2048 32) : IVec S2048x2048 32 :=
  broadcastInDim S2048x2048 ![0, 1] bcast_S1x2048_S2048x2048_0_1 (broadcastInDim S1x2048 ![1] bcast_S2048_S1x2048_1 x)

/-- A vector along the queries. -/
def alongQueries (x : IVec S2048 32) : IVec S2048x2048 32 :=
  broadcastInDim S2048x2048 ![0, 1] bcast_S2048x1_S2048x2048_0_1 (broadcastInDim S2048x1 ![0] bcast_S2048_S2048x1_0 x)

/-- A mask for every batch and head. -/
def everyHead (x : IVec S2048x2048 1) : IVec S32x8x2048x2048 1 := broadcastInDim S32x8x2048x2048 ![2, 3] bcast_S2048x2048_S32x8x2048x2048_2_3 x

/-- One number everywhere. -/
def fill (x : FVec Ideal S_ .f32) : Tab := broadcastInDim S32x8x2048x2048 ![] bcast_S_S32x8x2048x2048 x

/-- One number per query, for every key. -/
def perQuery (x : FVec Ideal S32x8x2048 .f32) : Tab :=
  broadcastInDim S32x8x2048x2048 ![0, 1, 2, 3] bcast_S32x8x2048x1_S32x8x2048x2048_0_1_2_3 (broadcastInDim S32x8x2048x1 ![0, 1, 2] bcast_S32x8x2048_S32x8x2048x1_0_1_2 x)

/-- Heads before positions. -/
def heads (x : FVec Ideal S32x2048x8x64 .f32) : FVec Ideal S32x8x2048x64 .f32 := transpose S32x8x2048x64 [0, 2, 1, 3] x transposes_S32x2048x8x64_S32x8x2048x64_0_2_1_3

/-- Heads before positions, wide heads. -/
def wideHeads (x : FVec Ideal S32x2048x8x96 .f32) : FVec Ideal S32x8x2048x96 .f32 := transpose S32x8x2048x96 [0, 2, 1, 3] x transposes_S32x2048x8x96_S32x8x2048x96_0_2_1_3

/-- The weighted sums of the values, heads side by side. -/
def mix (w : Tab) (v : FVec Ideal S32x2048x8x64 .f32) : FVec Ideal S32x2048x512 .bf16 :=
  truncf .bf16 (shapeCast S32x2048x512 (transpose S32x2048x8x64 [0, 2, 1, 3] (Host.dotGeneral dot_S32x8x2048x2048_S32x8x2048x64_S32x8x2048x64_3_2_2_3_01_01 none w (heads v)) transposes_S32x8x2048x64_S32x2048x8x64_0_2_1_3) shapeCasts_S32x2048x8x64_S32x2048x512) bitsLt_bf16_f32

/-- Latent attention's scores, masked by chunk. -/
def score (q k : FVec Ideal S32x2048x8x96 .f32) : Tab :=
  select (everyHead (cmpi .sle (alongKeys chunk) (alongQueries chunk)))
    (Host.divf (Host.dotGeneral dot_S32x8x2048x96_S32x8x2048x96_S32x8x2048x2048_3_3_2_2_01_01 none (wideHeads q) (wideHeads k)) (fill (Host.sqrt (constant S_ .f32 0x42C00000#32))))
    (fill (id (constant S_ .f32 0xFF800000#32)))

/-- The greatest score of each query. -/
def top (sc : Tab) : FVec Ideal S32x8x2048 .f32 :=
  maximumf (broadcastInDim S32x8x2048 ![] bcast_S_S32x8x2048 (constant S_ .f32 0xFF800000#32))
    (Host.reduce FloatOps.maximumf sc (constant S_ .f32 0xFF800000#32) reducesTo_S32x8x2048x2048_S32x8x2048_d3 h_S_)

/-- The exponentials of the scores less the greatest. -/
def lifted (sc : Tab) : Tab := Host.exp (subf sc (perQuery (top sc)))

/-- The softmax of the scores. -/
def softmax (sc : Tab) : Tab :=
  Host.divf (lifted sc) (perQuery (Host.reduceAdd (lifted sc) (constant S_ .f32 0x00000000#32) reducesTo_S32x8x2048x2048_S32x8x2048_d3 h_S_))

/-- Latent attention, stage by stage. -/
theorem out0 (m : (ℓ : Loc nD τ sig) → Buf (Elt Ideal) ℓ) (c : Dev nD) :
    res_out0 m c = mix (softmax (score (m ((c : Thread nD τ).loc main_arg0)) (m ((c : Thread nD τ).loc main_arg1)))) (m ((c : Thread nD τ).loc main_arg2)) := by
  unfold res_out0 res_main_v51
  rfl

/-- The zero table. -/
def zeros : Tab := fill (constant S_ .f32 0x00000000#32)

/-- Stick-breaking attention's scores. -/
def logit (q k : FVec Ideal S32x2048x8x64 .f32) : Tab :=
  mulf (Host.dotGeneral dot_S32x8x2048x64_S32x8x2048x64_S32x8x2048x2048_3_3_2_2_01_01 none (heads q) (heads k)) (fill (constant S_ .f32 0x3E000000#32))

/-- Minus the logarithm of one plus the exponential. -/
def logSigmoidNeg (u : Tab) : Tab :=
  Host.negf (select (cmpf .une (subf u zeros) (subf u zeros)) (addf u zeros)
    (addf (maximumf u zeros) (Host.log1p (Host.exp (Host.negf (Host.absf (subf u zeros)))))))

/-- The keys before the query. -/
def earlier : IVec S32x8x2048x2048 1 := everyHead (cmpi .slt (alongKeys (iotaInDim S2048 32 0)) (alongQueries (iotaInDim S2048 32 0)))

/-- The logarithms of what each key leaves over. -/
def left (x : Tab) : Tab := select earlier (logSigmoidNeg (Host.negf (Host.negf x))) (fill (id (constant S_ .f32 0x00000000#32)))

/-- Their sums from each key on. -/
def tails (x : Tab) : Tab :=
  Host.reduceWindowAdd ![1, 1, 1, 2048] ![1, 1, 1, 1] ![0, 0, 0, 0] ![0, 0, 0, 2047] x (broadcastInDim S_ ![] bcast_S_S_ (constant S_ .f32 0x00000000#32))
    reduceWindows_S32x8x2048x2048_S32x8x2048x2048_w1s1p0_0_w1s1p0_0_w1s1p0_0_w2048s1p0_2047 h_S_

/-- The stick-breaking weights. -/
def breaks (x : Tab) : Tab :=
  select earlier (Host.exp (subf (addf (logSigmoidNeg (Host.negf x)) (tails (left x))) (left x))) (fill (id (constant S_ .f32 0x00000000#32)))

/-- Stick-breaking attention, stage by stage. -/
theorem out1 (m : (ℓ : Loc nD τ sig) → Buf (Elt Ideal) ℓ) (c : Dev nD) :
    res_out1 m c = mix (breaks (logit (m ((c : Thread nD τ).loc main_arg3)) (m ((c : Thread nD τ).loc main_arg4)))) (m ((c : Thread nD τ).loc main_arg5)) := by
  unfold res_out1 res_main_v54
  rfl

end Cert.Attn.Ref
-- ==== Proof.RefReads.lean ====
/- The shape operations and sums of the reference, read at an index. -/
module

public import proofs.«01_k».proof.Proof.Reference

@[expose] public section

set_option maxRecDepth 16384

noncomputable section

namespace Cert.Attn.Ref

open Idealize.ShloMosaic Idealize.ShloMosaic.TcCoe Idealize.SL.Sem
open scoped BigOperators
open Cert.ReferenceIdeal Cert.ReferenceIdeal.Gen Cert.ReferenceIdeal.Value

/-- Heads first, at an index. -/
theorem heads_at (x : FVec Ideal S32x2048x8x64 .f32) (b : Fin 32) (h : Fin 8) (R : Fin 2048) (l : Fin 64) :
    heads x (ix4 b h R l) = x (ix4 b R h l) := by
  unfold heads
  pointwise

/-- Wide heads first, at an index. -/
theorem wideHeads_at (x : FVec Ideal S32x2048x8x96 .f32) (b : Fin 32) (h : Fin 8) (R : Fin 2048) (l : Fin 96) :
    wideHeads x (ix4 b h R l) = x (ix4 b R h l) := by
  unfold wideHeads
  pointwise

/-- A constant table at an index. -/
theorem fill_at (x : FVec Ideal S_ .f32) (b : Fin 32) (h : Fin 8) (R j : Fin 2048) : fill x (ix4 b h R j) = x (Shape.Idx.first h_S_) := by
  unfold fill
  pointwise
  exact congrArg x (funext fun a => a.elim0)

/-- One number per query, at an index. -/
theorem perQuery_at (x : FVec Ideal S32x8x2048 .f32)  (b : Fin 32) (h : Fin 8) (R j : Fin 2048) :
    perQuery x (ix4 b h R j) = x (ix3 b h R) := by
  unfold perQuery
  pointwise

/-- A mask for every head, at an index. -/
theorem everyHead_at (x : IVec S2048x2048 1) (b : Fin 32) (h : Fin 8) (R j : Fin 2048) : everyHead x (ix4 b h R j) = x (ix2 R j) := by
  unfold everyHead
  pointwise

/-- A vector along the keys, at an index. -/
theorem alongKeys_at (x : IVec S2048 32) (R j : Fin 2048) : alongKeys x (ix2 R j) = x (ix1 j) := by
  unfold alongKeys
  pointwise

/-- A vector along the queries, at an index. -/
theorem alongQueries_at (x : IVec S2048 32) (R j : Fin 2048) : alongQueries x (ix2 R j) = x (ix1 R) := by
  unfold alongQueries
  pointwise

/-- The products of wide queries with keys, at an index. -/
theorem dot_wide (x y : FVec Ideal S32x8x2048x96 .f32) (b : Fin 32) (h : Fin 8) (R j : Fin 2048) :
  (Host.dotGeneral dot_S32x8x2048x96_S32x8x2048x96_S32x8x2048x2048_3_3_2_2_01_01 none x y : Tab) (ix4 b h R j)
   = ∑ l : Fin 96, (x (ix4 b h R l) : EReal) * y (ix4 b h j l) := by
  pointwise

/-- The products of narrow queries with keys, at an index. -/
theorem dot_narrow (x y : FVec Ideal S32x8x2048x64 .f32) (b : Fin 32) (h : Fin 8) (R j : Fin 2048) :
  (Host.dotGeneral dot_S32x8x2048x64_S32x8x2048x64_S32x8x2048x2048_3_3_2_2_01_01 none x y : Tab) (ix4 b h R j)
   = ∑ l : Fin 64, (x (ix4 b h R l) : EReal) * y (ix4 b h j l) := by
  pointwise

/-- The weighted values, at an index. -/
theorem dot_mix (x : Tab) (y : FVec Ideal S32x8x2048x64 .f32) (b : Fin 32) (h : Fin 8) (R : Fin 2048) (d : Fin 64) :
  (Host.dotGeneral dot_S32x8x2048x2048_S32x8x2048x64_S32x8x2048x64_3_2_2_3_01_01 none x y : FVec Ideal S32x8x2048x64 .f32) (ix4 b h R d)
   = ∑ j : Fin 2048, (x (ix4 b h R j) : EReal) * y (ix4 b h j d) := by
  pointwise

/-- A sum over the keys, at an index. -/
theorem sum_at (x : Tab) (b : Fin 32) (h : Fin 8) (R : Fin 2048) : (Host.reduceAdd x (constant S_ .f32 0x00000000#32) reducesTo_S32x8x2048x2048_S32x8x2048_d3 h_S_ (ix3 b h R) : EReal)
   = 0 + ∑ j : Fin 2048, x (ix4 b h R j) := by
  pointwise

/-- Where the reduction over the last axis puts a key. -/
theorem lift_last {A B C N : ℕ} (h : (⟨4, ![A, B, C, N]⟩ : Shape).Reduces [3] ⟨3, ![A, B, C]⟩) (a : Fin A) (b : Fin B) (c : Fin C) (k : Fin N) :
    h.lift (ix3 a b c) k = ix4 a b c k := by
  funext d
  fin_cases d
  all_goals rfl

/-- The greatest of a row, with the start. -/
theorem greatest_last {A B C N : ℕ} (x : FVec Ideal (⟨4, ![A, B, C, N]⟩ : Shape) .f32)
    (h' : (⟨4, ![A, B, C, N]⟩ : Shape).ReducesTo [3] ⟨3, ![A, B, C]⟩) (hu : 0 < S_.numel)
    (h : (⟨4, ![A, B, C, N]⟩ : Shape).Reduces [3] ⟨3, ![A, B, C]⟩) (a : Fin A) (b : Fin B) (c : Fin C) :
    (Host.reduce (FloatOps.maximumf (F := Ideal)) x (constant (F := Ideal) S_ .f32 0xFF800000#32) h' hu : FVec Ideal (⟨3, ![A, B, C]⟩ : Shape) .f32) (ix3 a b c)
      = (Finset.univ : Finset (Fin N)).fold max ⊥ fun j => (x (ix4 a b c j) : EReal) := by
  rw [hostReduce_maximumf_eq_multiReduction x _ h' hu h (by decide) (by decide), Ideal.multiReduction_maximumf_single]
  show Finset.fold max (Ideal.ofBits .f32 0xFF800000#32) _ _ = _
  rw [bot_word]
  congr 1
  funext k
  exact congrArg x (lift_last h a b c k)

/-- The keys are one axis of a table. -/
theorem reduces_keys : S32x8x2048x2048.Reduces [3] S32x8x2048 := by decide

/-- The greatest of a row, started twice. -/
theorem greatest_twice {A B C N : ℕ} (x : FVec Ideal (⟨4, ![A, B, C, N]⟩ : Shape) .f32) (hb : S_.BroadcastsInDim (⟨3, ![A, B, C]⟩ : Shape) ![])
    (h' : (⟨4, ![A, B, C, N]⟩ : Shape).ReducesTo [3] ⟨3, ![A, B, C]⟩) (hu : 0 < S_.numel)
    (h : (⟨4, ![A, B, C, N]⟩ : Shape).Reduces [3] ⟨3, ![A, B, C]⟩) (a : Fin A) (b : Fin B) (c : Fin C) :
    (maximumf (broadcastInDim (⟨3, ![A, B, C]⟩ : Shape) ![] hb (constant (F := Ideal) S_ .f32 0xFF800000#32))
      (Host.reduce FloatOps.maximumf x (constant S_ .f32 0xFF800000#32) h' hu) (ix3 a b c) : EReal)
      = max ⊥ ((Finset.univ : Finset (Fin N)).fold max ⊥ fun j => (x (ix4 a b c j) : EReal)) := by
  have g := greatest_last x h' hu h a b c
  show max (Ideal.ofBits .f32 0xFF800000#32) _ = _
  exact congrArg₂ max bot_word g

/-- The greatest score of a query, at an index. -/
theorem top_at (x : Tab) (b : Fin 32) (h : Fin 8) (R : Fin 2048) :
    (top x (ix3 b h R) : EReal) = max ⊥ ((Finset.univ : Finset (Fin 2048)).fold max ⊥ fun j => (x (ix4 b h R j) : EReal)) :=
  greatest_twice x bcast_S_S32x8x2048 reducesTo_S32x8x2048x2048_S32x8x2048_d3 h_S_ reduces_keys b h R

/-- A running sum from the left is a sum. -/
theorem foldl_add {n : ℕ} (f : Fin n → EReal) (v : EReal) : (List.finRange n).foldl (fun r k => r + f k) v = v + ∑ k : Fin n, f k := by
  have : ∀ (l : List (Fin n)) (v : EReal), l.foldl (fun r k => r + f k) v = v + (l.map f).sum := by
    intro l
    induction l with
    | nil => simp
    | cons a l ih => intro v; simp [ih, add_assoc]
  rw [this, ← List.ofFn_eq_map, List.sum_ofFn]

/-- A row of a table, on the natural numbers. -/
def row {A B C N : ℕ} (x : FVec Ideal (⟨4, ![A, B, C, N]⟩ : Shape) .f32) (a : Fin A) (b : Fin B) (c : Fin C) (k : ℕ) : EReal :=
  if p : k < N then x (ix4 a b c ⟨k, p⟩) else 0

/-- One element of a window: the row's element there, zero past the end. -/
theorem window_read {A B C N : ℕ} (x : FVec Ideal (⟨4, ![A, B, C, N]⟩ : Shape) .f32) (a : Fin A) (b : Fin B) (c : Fin C) (j : Fin N)
    (w : (⟨4, ![1, 1, 1, N]⟩ : Shape).Idx) (e : (4 : ℕ) = 4) :
    (if hin : ∀ d : Fin 4, (![0, 0, 0, 0] : Fin 4 → ℕ) d ≤ (ix4 a b c j (d.cast e)).val * (![1, 1, 1, 1] : Fin 4 → ℕ) d + (w d).val
          ∧ (ix4 a b c j (d.cast e)).val * (![1, 1, 1, 1] : Fin 4 → ℕ) d + (w d).val - (![0, 0, 0, 0] : Fin 4 → ℕ) d < (![A, B, C, N] : Fin 4 → ℕ) d
        then x fun d => ⟨(ix4 a b c j (d.cast e)).val * (![1, 1, 1, 1] : Fin 4 → ℕ) d + (w d).val - (![0, 0, 0, 0] : Fin 4 → ℕ) d, (hin d).2⟩
        else (0 : EReal)) = row x a b c (j.val + (w 3).val) := by
  have w0 : (w 0).val = 0 := Nat.lt_one_iff.1 (w 0).isLt
  have w1 : (w 1).val = 0 := Nat.lt_one_iff.1 (w 1).isLt
  have w2 : (w 2).val = 0 := Nat.lt_one_iff.1 (w 2).isLt
  have e0 : (ix4 a b c j ((0 : Fin 4).cast e)).val = a.val := rfl
  have e1 : (ix4 a b c j ((1 : Fin 4).cast e)).val = b.val := rfl
  have e2 : (ix4 a b c j ((2 : Fin 4).cast e)).val = c.val := rfl
  have e3 : (ix4 a b c j ((3 : Fin 4).cast e)).val = j.val := rfl
  unfold row
  by_cases p : j.val + (w 3).val < N
  · rw [dif_pos p, dif_pos]
    · refine congrArg x (funext fun d => Fin.ext ?_)
      match d with
      | 0 => show (ix4 a b c j ((0 : Fin 4).cast e)).val * 1 + (w 0).val - 0 = a.val; omega
      | 1 => show (ix4 a b c j ((1 : Fin 4).cast e)).val * 1 + (w 1).val - 0 = b.val; omega
      | 2 => show (ix4 a b c j ((2 : Fin 4).cast e)).val * 1 + (w 2).val - 0 = c.val; omega
      | 3 => show (ix4 a b c j ((3 : Fin 4).cast e)).val * 1 + (w 3).val - 0 = j.val + (w 3).val; omega
    · intro d
      have := a.isLt
      have := b.isLt
      have := c.isLt
      match d with
      | 0 => exact ⟨Nat.zero_le _, show (ix4 a b c j ((0 : Fin 4).cast e)).val * 1 + (w 0).val - 0 < A by omega⟩
      | 1 => exact ⟨Nat.zero_le _, show (ix4 a b c j ((1 : Fin 4).cast e)).val * 1 + (w 1).val - 0 < B by omega⟩
      | 2 => exact ⟨Nat.zero_le _, show (ix4 a b c j ((2 : Fin 4).cast e)).val * 1 + (w 2).val - 0 < C by omega⟩
      | 3 => exact ⟨Nat.zero_le _, show (ix4 a b c j ((3 : Fin 4).cast e)).val * 1 + (w 3).val - 0 < N by omega⟩
  · rw [dif_neg p, dif_neg]
    intro q
    have := (show (ix4 a b c j ((3 : Fin 4).cast e)).val * 1 + (w 3).val - 0 < N from (q 3).2)
    omega

/-- Sums over windows reaching past the end of the last axis are sums of the tails. -/
theorem window_last {A B C N M : ℕ} (x : FVec Ideal (⟨4, ![A, B, C, N]⟩ : Shape) .f32)
    (h : (⟨4, ![A, B, C, N]⟩ : Shape).ReduceWindows ![1, 1, 1, N] ![1, 1, 1, 1] ![0, 0, 0, 0] ![0, 0, 0, M] ⟨4, ![A, B, C, N]⟩)
    (a : Fin A) (b : Fin B) (c : Fin C) (j : Fin N) :
    Ideal.hostReduceWindowAdd ![1, 1, 1, N] ![1, 1, 1, 1] ![0, 0, 0, 0] ![0, 0, 0, M] h x 0 (ix4 a b c j) = ∑ k ∈ Finset.Ico j.val N, row x a b c k := by
  unfold Ideal.hostReduceWindowAdd Host.reduceWindow
  dsimp only
  rw [foldl_add, zero_add]
  rw [Fintype.sum_equiv (Shape.rowMajor ⟨4, ![1, 1, 1, N]⟩).symm _ (fun w : (⟨4, ![1, 1, 1, N]⟩ : Shape).Idx => row x a b c (j.val + (w 3).val))]
  · rw [sum_idx4]
    simp only [Fin.sum_univ_one, Fintype.sum_unique, ix4_3]
    rw [Finset.sum_Ico_eq_sum_range, Fin.sum_univ_eq_sum_range (fun k => row x a b c (j.val + k)) N]
    refine (Finset.sum_subset (by intro k; simp; omega) fun k _ hk => ?_).symm
    unfold row
    rw [dif_neg]
    simp at hk
    omega
  · intro n
    convert window_read x a b c j ((Shape.rowMajor ⟨4, ![1, 1, 1, N]⟩).symm n) rfl

/-- The same of the host's sum over windows started at zero. -/
theorem window_host {A B C N M : ℕ} (x : FVec Ideal (⟨4, ![A, B, C, N]⟩ : Shape) .f32) (z : FVec Ideal S_ .f32)
    (h : (⟨4, ![A, B, C, N]⟩ : Shape).ReduceWindows ![1, 1, 1, N] ![1, 1, 1, 1] ![0, 0, 0, 0] ![0, 0, 0, M] ⟨4, ![A, B, C, N]⟩) (hu : 0 < S_.numel)
    (hz : (z (Shape.Idx.first hu) : EReal) = 0) (a : Fin A) (b : Fin B) (c : Fin C) (j : Fin N) :
    (Host.reduceWindowAdd ![1, 1, 1, N] ![1, 1, 1, 1] ![0, 0, 0, 0] ![0, 0, 0, M] x z h hu (ix4 a b c j) : EReal) = ∑ k ∈ Finset.Ico j.val N, row x a b c k := by
  rw [← window_last x h a b c j, ← hz]
  rfl

end Cert.Attn.Ref
-- ==== Proof.RefValues.lean ====
/- The reference's two results are the textbook attentions. -/
module

public import proofs.«01_k».proof.Proof.RefReads

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Value
open scoped BigOperators

/-- A position's chunk. -/
theorem chunk_at : ∀ n : Fin 2048, chunk (ix1 n) = BitVec.ofNat 32 (n.val / 64) := by decide +kernel

/-- An array's element, at naturals inside. -/
theorem arg4_at {n : ℕ} (x : FVec Ideal (⟨4, ![32, 2048, 8, n]⟩ : Shape) .f32) (b : Fin 32) (i : Fin 2048) (h : Fin 8) (l : Fin n) :
    arg4 x b.val i.val h.val l.val = x (ix4 b i h l) := by
  unfold arg4
  rw [dif_pos ⟨b.isLt, i.isLt, h.isLt, l.isLt⟩]

/-- A row's element, inside. -/
theorem row_at (x : Tab) (b : Fin 32) (h : Fin 8) (R j : Fin 2048) : row x b h R j.val = x (ix4 b h R j) := by
  unfold row
  rw [dif_pos j.isLt]

/-- The masked scores. -/
theorem score_at (q k : FVec Ideal S32x2048x8x96 .f32) (b : Fin 32) (h : Fin 8) (R j : Fin 2048) :
    (score q k (ix4 b h R j) : EReal)
      = masked (seen R.val) (fun j => Ideal.div (∑ l : Fin 96, arg4 q b.val R.val h.val l.val * arg4 k b.val j h.val l.val) (Ideal.sqrt (Ideal.ofBits .f32 0x42C00000#32))) j.val := by
  have e1 := (everyHead_at (cmpi .sle (alongKeys chunk) (alongQueries chunk)) b h R j).trans
    (show _ = BitVec.ofBool ((alongKeys chunk (ix2 R j)).sle (alongQueries chunk (ix2 R j))) from rfl)
  rw [alongKeys_at, alongQueries_at, chunk_at, chunk_at, sle_small _ _ (by omega) (by omega)] at e1
  have e2 := dot_wide (wideHeads q) (wideHeads k) b h R j
  have e3 := fill_at (Host.sqrt (constant S_ .f32 0x42C00000#32)) b h R j
  have e4 := fill_at (id (constant S_ .f32 0xFF800000#32)) b h R j
  unfold score
  show Scalar.select (everyHead _ _) (Ideal.div ((Host.dotGeneral dot_S32x8x2048x96_S32x8x2048x96_S32x8x2048x2048_3_3_2_2_01_01 none (wideHeads q) (wideHeads k) : Tab) (ix4 b h R j)) (fill _ (ix4 b h R j))) (fill _ (ix4 b h R j)) = _
  rw [e1, e2, e3, e4, select_decide]
  unfold masked seen
  congr 1
  · refine congrArg (Ideal.div · _) (Finset.sum_congr rfl fun l _ => ?_)
    rw [wideHeads_at, wideHeads_at, arg4_at, arg4_at]

/-- The softmax of a table, at an index. -/
theorem softmax_at (x : Tab) (b : Fin 32) (h : Fin 8) (R j : Fin 2048) :
    (softmax x (ix4 b h R j) : EReal)
      = Ideal.div (Ideal.exp (row x b h R j.val - max ⊥ (greatest 2048 (row x b h R))))
        (0 + ∑ i : Fin 2048, Ideal.exp (row x b h R i.val - max ⊥ (greatest 2048 (row x b h R)))) := by
  have t : ∀ i : Fin 2048, (lifted x (ix4 b h R i) : EReal) = Ideal.exp (row x b h R i.val - max ⊥ (greatest 2048 (row x b h R))) := by
    intro i
    have e := (perQuery_at (top x) b h R i).trans (top_at x b h R)
    unfold lifted
    show Ideal.exp ((x (ix4 b h R i) : EReal) - perQuery (top x) (ix4 b h R i)) = _
    rw [e, row_at]
    unfold greatest
    simp only [row_at]
  have e := (perQuery_at (Host.reduceAdd (lifted x) (constant S_ .f32 0x00000000#32) reducesTo_S32x8x2048x2048_S32x8x2048_d3 h_S_) b h R j).trans (sum_at (lifted x) b h R)
  unfold softmax
  show Ideal.div (lifted x (ix4 b h R j)) (perQuery _ (ix4 b h R j)) = _
  rw [e, t]
  simp only [t]

/-- The weighted values, at an index. -/
theorem mix_at (w : Tab) (v : FVec Ideal S32x2048x8x64 .f32) (b : Fin 32) (R : Fin 2048) (C : Fin 512) (h : Fin 8) (d : Fin 64)
    (hC : C.val = 64 * h.val + d.val) :
    (mix w v (ix3 b R C) : EReal) = ∑ j : Fin 2048, (w (ix4 b h R j) : EReal) * arg4 v b.val j.val h.val d.val := by
  have e : (mix w v (ix3 b R C) : EReal) = shapeCast S32x2048x512 (transpose S32x2048x8x64 [0, 2, 1, 3] (Host.dotGeneral dot_S32x8x2048x2048_S32x8x2048x64_S32x8x2048x64_3_2_2_3_01_01 none w (heads v)) transposes_S32x8x2048x64_S32x2048x8x64_0_2_1_3) shapeCasts_S32x2048x8x64_S32x2048x512 (ix3 b R C) := rfl
  rw [e, shapeCast_apply _ _ _ (ix4 b R h d) (by
    rw [Shape.rowMajor_val_four, Shape.rowMajor_val_three]
    show ((b.val * 2048 + R.val) * 8 + h.val) * 64 + d.val = (b.val * 2048 + R.val) * 512 + C.val
    omega)]
  have t : (transpose S32x2048x8x64 [0, 2, 1, 3] (Host.dotGeneral dot_S32x8x2048x2048_S32x8x2048x64_S32x8x2048x64_3_2_2_3_01_01 none w (heads v)) transposes_S32x8x2048x64_S32x2048x8x64_0_2_1_3 : FVec Ideal S32x2048x8x64 .f32) (ix4 b R h d)
      = (Host.dotGeneral dot_S32x8x2048x2048_S32x8x2048x64_S32x8x2048x64_3_2_2_3_01_01 none w (heads v) : FVec Ideal S32x8x2048x64 .f32) (ix4 b h R d) := by
    generalize (Host.dotGeneral dot_S32x8x2048x2048_S32x8x2048x64_S32x8x2048x64_3_2_2_3_01_01 none w (heads v) : FVec Ideal S32x8x2048x64 .f32) = y
    pointwise
  rw [t, dot_mix]
  refine Finset.sum_congr rfl fun j _ => ?_
  rw [heads_at, arg4_at]

/-- The softmax weighs a row by the row's values alone. -/
theorem soft_congr (n : ℕ) (x y v : ℕ → EReal) (hxy : ∀ k : Fin n, x k.val = y k.val) : soft n x v = soft n y v := by
  unfold soft greatest
  simp only [hxy]

/-- Latent attention of the reference, at an index. -/
theorem latent_at (q k : FVec Ideal S32x2048x8x96 .f32) (v : FVec Ideal S32x2048x8x64 .f32) (b : Fin 32) (R : Fin 2048) (C : Fin 512) (h : Fin 8) (d : Fin 64)
    (hC : C.val = 64 * h.val + d.val) :
    (mix (softmax (score q k)) v (ix3 b R C) : EReal) = mlaRef q k v b.val R.val h.val d.val := by
  rw [mix_at _ _ b R C h d hC]
  unfold mlaRef
  rw [← soft_congr 2048 (row (score q k) b h R) _ _ fun j => (row_at _ b h R j).trans (score_at q k b h R j)]
  unfold soft
  refine Finset.sum_congr rfl fun j _ => ?_
  rw [softmax_at]

/-- Minus the logarithm of one plus the exponential, at an index. -/
theorem logSigmoidNeg_at (u : Tab) (b : Fin 32) (h : Fin 8) (R j : Fin 2048) : (logSigmoidNeg u (ix4 b h R j) : EReal) = -(lse (u (ix4 b h R j))) := by
  have z : (zeros (ix4 b h R j) : EReal) = 0 := (fill_at _ b h R j).trans zero_word
  unfold logSigmoidNeg
  show -(Scalar.select (Ideal.cmp .une ((u (ix4 b h R j) : EReal) - zeros (ix4 b h R j)) (u (ix4 b h R j) - zeros (ix4 b h R j))) ((u (ix4 b h R j) : EReal) + zeros (ix4 b h R j))
    (max (u (ix4 b h R j) : EReal) (zeros (ix4 b h R j)) + Ideal.log1p (Ideal.exp (-(max ((u (ix4 b h R j) : EReal) - zeros (ix4 b h R j)) (-((u (ix4 b h R j) : EReal) - zeros (ix4 b h R j)))))))) = _
  rw [z, sub_zero]
  unfold lse
  have : Ideal.cmp .une (u (ix4 b h R j) : EReal) (u (ix4 b h R j)) = 0#1 := by simp [Ideal.cmp]
  rw [this]
  rfl

/-- The keys before the query, at an index. -/
theorem earlier_at (b : Fin 32) (h : Fin 8) (R j : Fin 2048) : earlier (ix4 b h R j) = BitVec.ofBool (decide (j.val < R.val)) := by
  have e1 := (everyHead_at (cmpi .slt (alongKeys (iotaInDim S2048 32 0)) (alongQueries (iotaInDim S2048 32 0))) b h R j).trans
    (show _ = BitVec.ofBool ((alongKeys (iotaInDim S2048 32 0) (ix2 R j)).slt (alongQueries (iotaInDim S2048 32 0) (ix2 R j))) from rfl)
  rw [alongKeys_at, alongQueries_at] at e1
  have e2 : ∀ n : Fin 2048, iotaInDim S2048 32 0 (ix1 n) = BitVec.ofNat 32 n.val := fun n => rfl
  rw [e2, e2, slt_small _ _ (by omega) (by omega)] at e1
  exact e1

/-- What each key leaves, at an index. -/
theorem left_at (x : Tab) (b : Fin 32) (h : Fin 8) (R j : Fin 2048) : (left x (ix4 b h R j) : EReal) = keep R.val (row x b h R) j.val := by
  have e1 := logSigmoidNeg_at (Host.negf (Host.negf x)) b h R j
  have e4 := (fill_at (id (constant S_ .f32 0x00000000#32)) b h R j).trans zero_word
  unfold left
  show Scalar.select (earlier _) (logSigmoidNeg _ _) (fill _ _) = _
  rw [earlier_at, e1, e4, select_decide]
  unfold keep
  rw [row_at]
  rfl

/-- The sums of what the keys leave, at an index. -/
theorem tails_at (x : Tab) (b : Fin 32) (h : Fin 8) (R j : Fin 2048) : (tails x (ix4 b h R j) : EReal) = ∑ k ∈ Finset.Ico j.val 2048, row x b h R k := by
  unfold tails
  exact window_host x _ _ h_S_ zero_word b h R j

/-- The stick-breaking weights, at an index. -/
theorem breaks_at (x : Tab) (b : Fin 32) (h : Fin 8) (R j : Fin 2048) : (breaks x (ix4 b h R j) : EReal) = stick R.val (row x b h R) 2048 j.val := by
  have e1 := logSigmoidNeg_at (Host.negf x) b h R j
  have e2 := tails_at (left x) b h R j
  have e3 : ∀ k ∈ Finset.Ico j.val 2048, row (left x) b h R k = keep R.val (row x b h R) k := fun k hk =>
    (row_at (left x) b h R ⟨k, (Finset.mem_Ico.1 hk).2⟩).trans (left_at x b h R ⟨k, (Finset.mem_Ico.1 hk).2⟩)
  have e4 := (fill_at (id (constant S_ .f32 0x00000000#32)) b h R j).trans zero_word
  rw [Finset.sum_congr rfl e3] at e2
  unfold breaks
  show Scalar.select (earlier _) (Ideal.exp (logSigmoidNeg _ _ + tails _ _ - left _ _)) (fill _ _) = _
  rw [earlier_at, e1, e2, e4, left_at, select_decide]
  unfold stick
  rw [row_at]
  rfl

/-- The stick-breaking scores, at an index. -/
theorem logit_at (q k : FVec Ideal S32x2048x8x64 .f32) (b : Fin 32) (h : Fin 8) (R j : Fin 2048) :
    (logit q k (ix4 b h R j) : EReal) = (∑ l : Fin 64, arg4 q b.val R.val h.val l.val * arg4 k b.val j.val h.val l.val) * Ideal.ofBits .f32 0x3E000000#32 := by
  have e2 := dot_narrow (heads q) (heads k) b h R j
  have e3 := fill_at (constant S_ .f32 0x3E000000#32) b h R j
  unfold logit
  show ((Host.dotGeneral dot_S32x8x2048x64_S32x8x2048x64_S32x8x2048x2048_3_3_2_2_01_01 none (heads q) (heads k) : Tab) (ix4 b h R j) : EReal) * fill _ (ix4 b h R j) = _
  rw [e2, e3]
  refine congrArg (· * _) (Finset.sum_congr rfl fun l _ => ?_)
  rw [heads_at, heads_at, arg4_at, arg4_at]

/-- The stick weighs a row by the row's values alone. -/
theorem stick_congr (R n : ℕ) (x y : ℕ → EReal) (hxy : ∀ k : Fin n, x k.val = y k.val) (j : Fin n) : stick R x n j.val = stick R y n j.val := by
  unfold stick keep
  rw [hxy j]
  refine if_congr Iff.rfl ?_ rfl
  congr 3
  exact Finset.sum_congr rfl fun c hc => by rw [hxy ⟨c, (Finset.mem_Ico.1 hc).2⟩]

/-- Stick-breaking attention of the reference, at an index. -/
theorem sticks_at (q k v : FVec Ideal S32x2048x8x64 .f32) (b : Fin 32) (R : Fin 2048) (C : Fin 512) (h : Fin 8) (d : Fin 64)
    (hC : C.val = 64 * h.val + d.val) :
    (mix (breaks (logit q k)) v (ix3 b R C) : EReal) = stickRef q k v b.val R.val h.val d.val := by
  rw [mix_at _ _ b R C h d hC]
  unfold stickRef
  refine Finset.sum_congr rfl fun j _ => ?_
  rw [breaks_at, stick_congr R.val 2048 _ (fun j => (∑ l : Fin 64, arg4 q b.val R.val h.val l.val * arg4 k b.val j h.val l.val) * Ideal.ofBits .f32 0x3E000000#32)
    (fun j => (row_at _ b h R j).trans (logit_at q k b h R j)) j]

end Cert.Attn.Ref
-- ==== Proof.Join.lean ====
/- The kernel's results and the reference's are the same. -/
module

public import proofs.«01_k».proof.Defs
public import proofs.«01_k».proof.Proof.RefValues

@[expose] public section

set_option maxRecDepth 16384

noncomputable section

namespace Cert.Attn

open Idealize.ShloMosaic Idealize.ShloMosaic.TcCoe Idealize.SL.Sem

/-- The precondition's shape facts. -/
instance preFacts : Cert.Pre_finite_logits.Facts := ⟨by decide⟩

/-- A number whose size is below infinity is real. -/
theorem real_of_below (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x using EReal.rec with
  | bot => simp [Ideal.cmp] at h
  | top => simp [Ideal.cmp] at h
  | coe r => exact ⟨r, rfl⟩

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Under the precondition the queries of latent attention are real. -/
theorem queries_real (h : Pre_KernelIdeal_finite_logits m) (c : Dev Cert.KernelIdeal.nD) (i : Cert.KernelIdeal.S32x2048x8x96.Idx) :
    ∃ r : ℝ, @Eq EReal (m ((c.tc : Thread Cert.KernelIdeal.nD Cert.KernelIdeal.τ).loc Cert.KernelIdeal.main_arg0) i) r :=
  real_of_below _ (congrFun (h c).1 i)

/-- Under the precondition the keys of latent attention are real. -/
theorem keys_real (h : Pre_KernelIdeal_finite_logits m) (c : Dev Cert.KernelIdeal.nD) (i : Cert.KernelIdeal.S32x2048x8x96.Idx) :
    ∃ r : ℝ, @Eq EReal (m ((c.tc : Thread Cert.KernelIdeal.nD Cert.KernelIdeal.τ).loc Cert.KernelIdeal.main_arg1) i) r :=
  real_of_below _ (congrFun (h c).2 i)

/-- The reference's latent attention is the kernel's. -/
theorem latent_same (q k : FVec Ideal Cert.KernelIdeal.S32x2048x8x96 .f32) (v : FVec Ideal Cert.KernelIdeal.S32x2048x8x64 .f32)
    (hq : ∀ i, ∃ r : ℝ, (q i : EReal) = r) (hk : ∀ i, ∃ r : ℝ, (k i : EReal) = r) (i : Cert.KernelIdeal.S32x2048x512.Idx) :
    (Ref.mix (Ref.softmax (Ref.score q k)) v i : EReal) = mlaKernel q k v (i 0).val (i 1).val ((i 2).val / 64) ((i 2).val % 64) := by
  have h2 : (i 2).val < 512 := (i 2).isLt
  rw [mla_agree q k v hq hk _ _ _ _ (i 1).isLt]
  exact (congrArg _ (eq_ix3 i)).trans (Ref.latent_at q k v (i 0) (i 1) (i 2) ⟨(i 2).val / 64, by omega⟩ ⟨(i 2).val % 64, by omega⟩
    (by show (i 2).val = 64 * ((i 2).val / 64) + (i 2).val % 64; omega))

/-- The reference's stick-breaking attention is the kernel's. -/
theorem sticks_same (q k v : FVec Ideal Cert.KernelIdeal.S32x2048x8x64 .f32) (i : Cert.KernelIdeal.S32x2048x512.Idx) :
    (Ref.mix (Ref.breaks (Ref.logit q k)) v i : EReal) = stickKernel q k v (i 0).val (i 1).val ((i 2).val / 64) ((i 2).val % 64) := by
  have h2 : (i 2).val < 512 := (i 2).isLt
  rw [stick_agree q k v _ _ _ _ (i 1).isLt]
  exact (congrArg _ (eq_ix3 i)).trans (Ref.sticks_at q k v (i 0) (i 1) (i 2) ⟨(i 2).val / 64, by omega⟩ ⟨(i 2).val % 64, by omega⟩
    (by show (i 2).val = 64 * ((i 2).val / 64) + (i 2).val % 64; omega))

/-- Kernel and reference give the same two results. -/
theorem algebraic : algebraic_KernelIdeal_ReferenceIdeal_pre_finite_logits := by
  intro m g m' g' hpre hargs
  refine ⟨fun c => mlaArray m c, fun c => stickArray m c, ?_, ?_⟩
  · refine (θ_run _ _ _).mono (fun r h c => ?_) (Cert.KernelIdeal.Value.run_blocks (F := Ideal) m g)
    obtain ⟨h0, h1, h2⟩ := h c
    exact ⟨h0.trans (final6 m c), h1.trans (final7 m c), h2⟩
  · refine (θ_run _ _ _).mono (fun r h c => ?_) (Cert.ReferenceIdeal.Value.run (F := Ideal) m' g')
    obtain ⟨h0, h1, h2⟩ := h c
    obtain ⟨a0, a1, a2, a3, a4, a5⟩ := hargs c
    refine ⟨h0.trans ?_, h1.trans ?_, h2⟩
    · refine (Ref.out0 m' c).trans ?_
      rw [a0, a1, a2]
      funext i
      exact latent_same _ _ _ (queries_real m hpre c) (keys_real m hpre c) i
    · refine (Ref.out1 m' c).trans ?_
      rw [a3, a4, a5]
      funext i
      exact sticks_same _ _ _ i

/-- The named numbers are what the table says. -/
theorem preserves : preserves_Kernel_KernelIdeal :=
  ⟨IdealRules.named_const.statement _ _ _ _ _ (by simp [Cert.KernelIdeal.κ]), IdealRules.named_const.statement _ _ _ _ _ (by simp [Cert.KernelIdeal.κ])⟩

/-- The reference runs, keeps its arguments, and leaves no counter standing. -/
theorem reference_quiet (m : (ℓ : Loc Cert.ReferenceIdeal.nD Cert.ReferenceIdeal.τ Cert.ReferenceIdeal.sig) → Buf (Elt Ideal) ℓ) (g) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

end Cert.Attn
-- ==== Proof.ExpertBody.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Disch
public import Idealize.ShloMosaic.Lib.UnfoldOut
public import Idealize.ShloMosaic.Lib.WordCmp
public import Idealize.ShloMosaic.Lib.Pipeline.ValueKit.Basic

@[expose] public section

set_option synthInstance.maxSize 4096

noncomputable section

namespace Cert.Experts

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The word a table holds for grid point `i`. -/
def here (tb : Vec F S656 .i32) (i : grid0.Coords) : BitVec 32 :=
  tb ((Rect.unit (s := S656) (k0_off1 i) S1.size (k0_off1_inb i)).idx (Shape.Idx.first (numel1_S1.symm ▸ Nat.one_pos)))

/-- The word a table holds for the grid point before `i` (for point 0: its own). -/
def prior (tb : Vec F S656 .i32) (i : grid0.Coords) : BitVec 32 :=
  tb ((Rect.unit (s := S656) (k0_off2 i) S1.size (k0_off2_inb i)).idx (Shape.Idx.first (numel1_S1.symm ▸ Nat.one_pos)))

/-- The condition under which the body casts its expert's weights anew: the first point, or another
    expert than the point before. -/
def anew (tb : Vec F S656 .i32) (i : grid0.Coords) : BitVec 1 :=
  Scalar.cmpi .ne (Scalar.extui (Scalar.ori (Scalar.cmpi .eq (BitVec.ofNat 32 (i 0).val) 0#32) (Scalar.cmpi .ne (here tb i) (prior tb i))) : BitVec 32) 0#32

abbrev rgu (k : Nat) (h : ∀ a, (![0, k, 0] : Fin 3 → Nat) a + S1x256x2048.size a ≤ S1x1024x2048.size a) : Rect S1x1024x2048 :=
  Rect.unit (s := S1x1024x2048) ![0, k, 0] S1x256x2048.size h
abbrev rdn (k : Nat) (h : ∀ a, (![0, k, 0] : Fin 3 → Nat) a + S1x256x1024.size a ≤ S1x1024x1024.size a) : Rect S1x1024x1024 :=
  Rect.unit (s := S1x1024x1024) ![0, k, 0] S1x256x1024.size h

/-- The gate-up weights' scratch after the cast: four quarters of rows. -/
def castGu (x : Vec F S1x1024x2048 .f32) : Vec F S1024x2048 .bf16 :=
  View.canon [
    ⟨Rect.unit (s := S1024x2048) ![768, 0] S256x2048.size inb_S1024x2048_S256x2048_768_0, k0_pay2 (View.ld x (rgu 768 inb_S1x1024x2048_S1x256x2048_0_768_0))⟩,
    ⟨Rect.unit (s := S1024x2048) ![512, 0] S256x2048.size inb_S1024x2048_S256x2048_512_0, k0_pay9 (View.ld x (rgu 512 inb_S1x1024x2048_S1x256x2048_0_512_0))⟩,
    ⟨Rect.unit (s := S1024x2048) ![256, 0] S256x2048.size inb_S1024x2048_S256x2048_256_0, k0_pay7 (View.ld x (rgu 256 inb_S1x1024x2048_S1x256x2048_0_256_0))⟩,
    ⟨Rect.unit (s := S1024x2048) ![0, 0] S256x2048.size inb_S1024x2048_S256x2048_0_0, k0_pay5 (View.ld x (rgu 0 inb_S1x1024x2048_S1x256x2048_0_0_0))⟩]

/-- The down weights' scratch after the cast: four quarters of rows. -/
def castDn (x : Vec F S1x1024x1024 .f32) : Vec F S1024x1024 .bf16 :=
  View.canon [
    ⟨Rect.unit (s := S1024x1024) ![768, 0] S256x1024.size inb_S1024x1024_S256x1024_768_0, k0_pay3 (View.ld x (rdn 768 inb_S1x1024x1024_S1x256x1024_0_768_0))⟩,
    ⟨Rect.unit (s := S1024x1024) ![512, 0] S256x1024.size inb_S1024x1024_S256x1024_512_0, k0_pay1 (View.ld x (rdn 512 inb_S1x1024x1024_S1x256x1024_0_512_0))⟩,
    ⟨Rect.unit (s := S1024x1024) ![256, 0] S256x1024.size inb_S1024x1024_S256x1024_256_0, k0_pay8 (View.ld x (rdn 256 inb_S1x1024x1024_S1x256x1024_0_256_0))⟩,
    ⟨Rect.unit (s := S1024x1024) ![0, 0] S256x1024.size inb_S1024x1024_S256x1024_0_0, k0_pay6 (View.ld x (rdn 0 inb_S1x1024x1024_S1x256x1024_0_0_0))⟩]

theorem coverGu (p0 p1 p2 p3 : Vec F S256x2048 .bf16) (y : S1024x2048.Idx) :
    ∃ pc ∈ ([⟨Rect.unit (s := S1024x2048) ![768, 0] S256x2048.size inb_S1024x2048_S256x2048_768_0, p0⟩,
      ⟨Rect.unit (s := S1024x2048) ![512, 0] S256x2048.size inb_S1024x2048_S256x2048_512_0, p1⟩,
      ⟨Rect.unit (s := S1024x2048) ![256, 0] S256x2048.size inb_S1024x2048_S256x2048_256_0, p2⟩,
      ⟨Rect.unit (s := S1024x2048) ![0, 0] S256x2048.size inb_S1024x2048_S256x2048_0_0, p3⟩] : List (View.Piece (Elt F) S1024x2048 .bf16)), y ∈ pc.1.set :=
  View.cover_of_tiled [⟨Rect.unit (s := S1024x2048) ![768, 0] S256x2048.size inb_S1024x2048_S256x2048_768_0, p0⟩,
      ⟨Rect.unit (s := S1024x2048) ![512, 0] S256x2048.size inb_S1024x2048_S256x2048_512_0, p1⟩,
      ⟨Rect.unit (s := S1024x2048) ![256, 0] S256x2048.size inb_S1024x2048_S256x2048_256_0, p2⟩,
      ⟨Rect.unit (s := S1024x2048) ![0, 0] S256x2048.size inb_S1024x2048_S256x2048_0_0, p3⟩] S256x2048.size (by rfl) y

theorem coverDn (p0 p1 p2 p3 : Vec F S256x1024 .bf16) (y : S1024x1024.Idx) :
    ∃ pc ∈ ([⟨Rect.unit (s := S1024x1024) ![768, 0] S256x1024.size inb_S1024x1024_S256x1024_768_0, p0⟩,
      ⟨Rect.unit (s := S1024x1024) ![512, 0] S256x1024.size inb_S1024x1024_S256x1024_512_0, p1⟩,
      ⟨Rect.unit (s := S1024x1024) ![256, 0] S256x1024.size inb_S1024x1024_S256x1024_256_0, p2⟩,
      ⟨Rect.unit (s := S1024x1024) ![0, 0] S256x1024.size inb_S1024x1024_S256x1024_0_0, p3⟩] : List (View.Piece (Elt F) S1024x1024 .bf16)), y ∈ pc.1.set :=
  View.cover_of_tiled [⟨Rect.unit (s := S1024x1024) ![768, 0] S256x1024.size inb_S1024x1024_S256x1024_768_0, p0⟩,
      ⟨Rect.unit (s := S1024x1024) ![512, 0] S256x1024.size inb_S1024x1024_S256x1024_512_0, p1⟩,
      ⟨Rect.unit (s := S1024x1024) ![256, 0] S256x1024.size inb_S1024x1024_S256x1024_256_0, p2⟩,
      ⟨Rect.unit (s := S1024x1024) ![0, 0] S256x1024.size inb_S1024x1024_S256x1024_0_0, p3⟩] S256x1024.size (by rfl) y

theorem coverOut (p : Vec F S512x1024 .bf16) (y : S512x1024.Idx) :
    ∃ pc ∈ ([⟨Rect.unit (s := S512x1024) ![0, 0] S512x1024.size inb_S512x1024_S512x1024_0_0, p⟩] : List (View.Piece (Elt F) S512x1024 .bf16)), y ∈ pc.1.set :=
  View.cover_of_tiled _ S512x1024.size (by rfl) y

/-- A load of the whole buffer at offset zero reads the contents. -/
theorem readAt_all {sp : Space} {S : Shape} {e : EltTy} (v : View sig .tc sp S e) (f : v.ty.Contents (Elt F)) (off : Fin S.rank → Nat)
    (inb : ∀ a, off a + S.size a ≤ S.size a) (h : ∀ a, off a = 0) :
    View.readAt (Elt F) v (Rect.unit off S.size inb).toLoadRect f = v.read (Elt F) f :=
  View.ld_unit_lit inb (v.read (Elt F) f) h

/-- The block value depends on its five inputs alone. -/
theorem pay10_congr {x0 y0 : Vec F S512x512 .i32} {x1 y1 : Vec F S1024x2048 .bf16} {x2 y2 : Vec F S1x1x2048 .f32} {x3 y3 : Vec F S1024x1024 .bf16}
    {x4 y4 : Vec F S1x1x1024 .f32} (h0 : x0 = y0) (h1 : x1 = y1) (h2 : x2 = y2) (h3 : x3 = y3) (h4 : x4 = y4) :
    k0_pay10 x0 x1 x2 x3 x4 = k0_pay10 y0 y1 y2 y3 y4 := by subst h0 h1 h2 h3 h4; rfl

set_option maxHeartbeats 1253050 in
/-- The body at a point that casts its weights anew and computes its block. -/
theorem run_anew_live (c : Dev nD) (E : Set ℕ) (i : grid0.Coords) (q : PosShare TreeShare) (arg1 : Memref sig .tc .smem S656 .i32) (harg1 : arg1.IsWhole) (arg2 : Memref sig .tc .smem S656 .i32) (harg2 : arg2.IsWhole) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (te tv : Vec F S656 .i32) (x0 : Vec F S512x512 .i32) (x1 : Vec F S1x1024x2048 .f32) (x2 : Vec F S1x1x2048 .f32) (x3 : Vec F S1x1024x1024 .f32) (x4 : Vec F S1x1x1024 .f32)
    (s9 : Vec F S1024x2048 .bf16) (s10 : Vec F S1024x1024 .bf16) (K : PUnit → sProp (MT nD τ sig Unit (Elt F) ℕ (UR sig nD τ) ℕ))
    (hanew : anew te i = 1#1) (hlive : k0_cond2 (here tv i) = 1#1) (hdead : ¬ k0_cond3 (here tv i) = 1#1) :
    iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s9 ∗ owns (c : Thread nD τ) arg10 fullShare s10
        ∗ (iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay10 x0 (castGu x1) x2 (castDn x3) x4) ∗ owns (c : Thread nD τ) arg9 fullShare (castGu x1) ∗ owns (c : Thread nD τ) arg10 fullShare (castDn x3)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton]
  unfold owns
  iintro ⟨⟨%t1, %ht1, T1⟩, ⟨%t2, %ht2, T2⟩, ⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst ht1 ht2 hf0 hf1 hf2 hf3 hf4 hf6 hf7
  sl_exec (disch := first | exact hanew | exact hlive | exact hdead)
  sl_step
  iapply Hk
  isplitl [T1]
  · iexists t1; isplitr; · ipureintro; rfl
    iexact T1
  isplitl [T2]
  · iexists t2; isplitr; · ipureintro; rfl
    iexact T2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverOut _)).trans ?_
    refine (View.canon_cons_unit_lit _ _ _ (by decide)).trans ?_
    exact pay10_congr (readAt_all _ _ _ _ (by decide))
      ((View.readCov_eq_canon_ld _ _ _ (coverGu _ _ _ _)).trans ((View.ld_unit_lit _ _ (by decide)).trans rfl))
      (readAt_all _ _ _ _ (by decide))
      ((View.readCov_eq_canon_ld _ _ _ (coverDn _ _ _ _)).trans ((View.ld_unit_lit _ _ (by decide)).trans rfl))
      (readAt_all _ _ _ _ (by decide))
  isplitl [H6]
  · iexists _; isplitr
    swap; · iexact H6
    ipureintro
    refine (View.read_writes_eq_canon _ _ _ (coverGu _ _ _ _)).trans ?_
    rfl
  iexists _; isplitr
  swap; · iexact H7
  ipureintro
  refine (View.read_writes_eq_canon _ _ _ (coverDn _ _ _ _)).trans ?_
  rfl

set_option maxHeartbeats 1253050 in
/-- The body at a point that casts its weights anew and whose block holds no rows: zeros go out. -/
theorem run_anew_dead (c : Dev nD) (E : Set ℕ) (i : grid0.Coords) (q : PosShare TreeShare) (arg1 : Memref sig .tc .smem S656 .i32) (harg1 : arg1.IsWhole) (arg2 : Memref sig .tc .smem S656 .i32) (harg2 : arg2.IsWhole) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (te tv : Vec F S656 .i32) (x0 : Vec F S512x512 .i32) (x1 : Vec F S1x1024x2048 .f32) (x2 : Vec F S1x1x2048 .f32) (x3 : Vec F S1x1024x1024 .f32) (x4 : Vec F S1x1x1024 .f32)
    (s9 : Vec F S1024x2048 .bf16) (s10 : Vec F S1024x1024 .bf16) (K : PUnit → sProp (MT nD τ sig Unit (Elt F) ℕ (UR sig nD τ) ℕ))
    (hanew : anew te i = 1#1) (hlive : ¬ k0_cond2 (here tv i) = 1#1) (hdead : k0_cond3 (here tv i) = 1#1) :
    iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s9 ∗ owns (c : Thread nD τ) arg10 fullShare s10
        ∗ (iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare k0_pay4 ∗ owns (c : Thread nD τ) arg9 fullShare (castGu x1) ∗ owns (c : Thread nD τ) arg10 fullShare (castDn x3)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton]
  unfold owns
  iintro ⟨⟨%t1, %ht1, T1⟩, ⟨%t2, %ht2, T2⟩, ⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst ht1 ht2 hf0 hf1 hf2 hf3 hf4 hf6 hf7
  sl_exec (disch := first | exact hanew | exact hlive | exact hdead)
  sl_step
  iapply Hk
  isplitl [T1]
  · iexists t1; isplitr; · ipureintro; rfl
    iexact T1
  isplitl [T2]
  · iexists t2; isplitr; · ipureintro; rfl
    iexact T2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverOut _)).trans ?_
    refine (View.canon_cons_unit_lit _ _ _ (by decide)).trans ?_
    rfl
  isplitl [H6]
  · iexists _; isplitr
    swap; · iexact H6
    ipureintro
    refine (View.read_writes_eq_canon _ _ _ (coverGu _ _ _ _)).trans ?_
    rfl
  iexists _; isplitr
  swap; · iexact H7
  ipureintro
  refine (View.read_writes_eq_canon _ _ _ (coverDn _ _ _ _)).trans ?_
  rfl

set_option maxHeartbeats 1253050 in
/-- The body at a point of the expert before it: the block comes from the weights already cast. -/
theorem run_kept_live (c : Dev nD) (E : Set ℕ) (i : grid0.Coords) (q : PosShare TreeShare) (arg1 : Memref sig .tc .smem S656 .i32) (harg1 : arg1.IsWhole) (arg2 : Memref sig .tc .smem S656 .i32) (harg2 : arg2.IsWhole) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (te tv : Vec F S656 .i32) (x0 : Vec F S512x512 .i32) (x1 : Vec F S1x1024x2048 .f32) (x2 : Vec F S1x1x2048 .f32) (x3 : Vec F S1x1024x1024 .f32) (x4 : Vec F S1x1x1024 .f32)
    (s9 : Vec F S1024x2048 .bf16) (s10 : Vec F S1024x1024 .bf16) (K : PUnit → sProp (MT nD τ sig Unit (Elt F) ℕ (UR sig nD τ) ℕ))
    (hanew : ¬ anew te i = 1#1) (hlive : k0_cond2 (here tv i) = 1#1) (hdead : ¬ k0_cond3 (here tv i) = 1#1) :
    iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s9 ∗ owns (c : Thread nD τ) arg10 fullShare s10
        ∗ (iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay10 x0 s9 x2 s10 x4) ∗ owns (c : Thread nD τ) arg9 fullShare s9 ∗ owns (c : Thread nD τ) arg10 fullShare s10) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton]
  unfold owns
  iintro ⟨⟨%t1, %ht1, T1⟩, ⟨%t2, %ht2, T2⟩, ⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst ht1 ht2 hf0 hf1 hf2 hf3 hf4 hf6 hf7
  sl_exec (disch := first | exact hanew | exact hlive | exact hdead)
  sl_step
  iapply Hk
  isplitl [T1]
  · iexists t1; isplitr; · ipureintro; rfl
    iexact T1
  isplitl [T2]
  · iexists t2; isplitr; · ipureintro; rfl
    iexact T2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverOut _)).trans ?_
    refine (View.canon_cons_unit_lit _ _ _ (by decide)).trans ?_
    exact pay10_congr (readAt_all _ _ _ _ (by decide)) (readAt_all _ _ _ _ (by decide)) (readAt_all _ _ _ _ (by decide))
      (readAt_all _ _ _ _ (by decide)) (readAt_all _ _ _ _ (by decide))
  isplitl [H6]
  · iexists f6; isplitr; · ipureintro; rfl
    iexact H6
  iexists f7; isplitr; · ipureintro; rfl
  iexact H7

set_option maxHeartbeats 1253050 in
/-- The body at a point of the expert before it whose block holds no rows. -/
theorem run_kept_dead (c : Dev nD) (E : Set ℕ) (i : grid0.Coords) (q : PosShare TreeShare) (arg1 : Memref sig .tc .smem S656 .i32) (harg1 : arg1.IsWhole) (arg2 : Memref sig .tc .smem S656 .i32) (harg2 : arg2.IsWhole) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (te tv : Vec F S656 .i32) (x0 : Vec F S512x512 .i32) (x1 : Vec F S1x1024x2048 .f32) (x2 : Vec F S1x1x2048 .f32) (x3 : Vec F S1x1024x1024 .f32) (x4 : Vec F S1x1x1024 .f32)
    (s9 : Vec F S1024x2048 .bf16) (s10 : Vec F S1024x1024 .bf16) (K : PUnit → sProp (MT nD τ sig Unit (Elt F) ℕ (UR sig nD τ) ℕ))
    (hanew : ¬ anew te i = 1#1) (hlive : ¬ k0_cond2 (here tv i) = 1#1) (hdead : k0_cond3 (here tv i) = 1#1) :
    iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s9 ∗ owns (c : Thread nD τ) arg10 fullShare s10
        ∗ (iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare k0_pay4 ∗ owns (c : Thread nD τ) arg9 fullShare s9 ∗ owns (c : Thread nD τ) arg10 fullShare s10) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton]
  unfold owns
  iintro ⟨⟨%t1, %ht1, T1⟩, ⟨%t2, %ht2, T2⟩, ⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst ht1 ht2 hf0 hf1 hf2 hf3 hf4 hf6 hf7
  sl_exec (disch := first | exact hanew | exact hlive | exact hdead)
  sl_step
  iapply Hk
  isplitl [T1]
  · iexists t1; isplitr; · ipureintro; rfl
    iexact T1
  isplitl [T2]
  · iexists t2; isplitr; · ipureintro; rfl
    iexact T2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverOut _)).trans ?_
    refine (View.canon_cons_unit_lit _ _ _ (by decide)).trans ?_
    rfl
  isplitl [H6]
  · iexists f6; isplitr; · ipureintro; rfl
    iexact H6
  iexists f7; isplitr; · ipureintro; rfl
  iexact H7

end Cert.Experts

end
-- ==== Proof.ExpertTables.lean ====
/- The two tables of the expert call: which expert a block of rows belongs to, and whether a block is in use. -/
module

public import proofs.«01_k».proof.Proof.ExpertBody
public import Idealize.ShloMosaic.PureOps.Reduce
public import Idealize.ShloMosaic.Lib.Pipeline.Frame

@[expose] public section

set_option maxRecDepth 16384

noncomputable section

namespace Cert.Experts

open Idealize.ShloMosaic Idealize.ShloMosaic.TcCoe
open Idealize.SL.Sem
open Cert.Kernel2Ideal Cert.Kernel2Ideal.Gen

variable {F : FTy → Type} [FloatOps F]
variable (m : (ℓ : Loc nD τ sig) → Buf (Elt F) ℓ)

/-- What the launch finds in each buffer: the buffers as the host operations before it leave them. -/
abbrev V (c : Dev nD) (b : Ref sig .tc) : Buf (Elt F) ((c : Thread nD τ).loc b) :=
  StableHlo.after (List.flatten [hostOps0, hostOps0_1, hostOps0_2, hostOps0_3]) (fun b => m (c, b)) b

/-- The running totals of the experts' blocks, from each expert's rows rounded up. -/
def totals (x : IVec S32 32) : IVec S32 32 :=
  Host.reduceWindow IntOp.addi ![32] ![1] ![31] ![0]
    (select (andi (cmpi .ne (signi x) (broadcastInDim S32 ![] bcast_S_S32 (signi (constantI S_ 32 512#32))))
        (cmpi .ne (Host.remsi x (broadcastInDim S32 ![] bcast_S_S32 (constantI S_ 32 512#32))) (broadcastInDim S32 ![] bcast_S_S32 (constantI S_ 32 0#32))))
      (subi (Host.divsi x (broadcastInDim S32 ![] bcast_S_S32 (constantI S_ 32 512#32))) (broadcastInDim S32 ![] bcast_S_S32 (constantI S_ 32 1#32)))
      (Host.divsi x (broadcastInDim S32 ![] bcast_S_S32 (constantI S_ 32 512#32))))
    (broadcastInDim S_ ![] bcast_S_S_ (constantI S_ 32 0#32)) reduceWindows_S32_S32_w32s1p31_0 h_S_

/-- The rows of each expert with a block less one row added. -/
def upRows (r : IVec S32 32) : IVec S32 32 :=
  subi (addi r (broadcastInDim S32 ![] bcast_S_S32 (constantI S_ 32 512#32))) (broadcastInDim S32 ![] bcast_S_S32 (constantI S_ 32 1#32))

/-- For each block and expert: one where the block lies at or past the end of the expert's blocks. -/
def past (e : IVec S32 32) : IVec S656x32 32 :=
  extui 32 (cmpi .sge (broadcastInDim S656x32 ![0, 1] bcast_S656x1_S656x32_0_1 (broadcastInDim S656x1 ![0] bcast_S656_S656x1_0 (iotaInDim S656 32 0)))
    (broadcastInDim S656x32 ![0, 1] bcast_S1x32_S656x32_0_1 (broadcastInDim S1x32 ![1] bcast_S32_S1x32_1 e))) natLt_1_32

/-- Each block's expert, from the running totals. -/
def owners (e : IVec S32 32) : IVec S656 32 :=
  minsi (Host.reduce IntOp.addi (past e) (constantI S_ 32 0#32) reducesTo_S656x32_S656_d1 h_S_)
    (broadcastInDim S656 ![] bcast_S_S656 (constantI S_ 32 31#32))

/-- Whether each block is in use, from the running totals. -/
def inUse (e : IVec S32 32) : IVec S656 32 :=
  extui 32 (cmpi .slt (iotaInDim S656 32 0)
    (broadcastInDim S656 ![] bcast_S_S656 (shapeCast S_ (extractStridedSlice S1 ![31] e slices_S32_S1_31) shapeCasts_S1_S_))) natLt_1_32

set_option maxHeartbeats 1600000 in
/-- The launch finds each block's expert in the first table. -/
theorem V_owner (c : Dev nD) : V m c main_v15 = owners (totals (upRows (m ((c : Thread nD τ).loc main_arg0)))) := by
  unfold V
  simp only [hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 1600000 in
/-- The launch finds in the second table whether each block is in use. -/
theorem V_inUse (c : Dev nD) : V m c main_v20 = inUse (totals (upRows (m ((c : Thread nD τ).loc main_arg0)))) := by
  unfold V
  simp only [hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The launch finds the first biases reshaped. -/
theorem V_bgu (c : Dev nD) : V m c main_v21 = shapeCast S32x1x2048 (m ((c : Thread nD τ).loc main_arg3) : Vec F S32x2048 .f32) shapeCasts_S32x2048_S32x1x2048 := by
  unfold V
  simp only [hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The launch finds the second biases reshaped. -/
theorem V_bd (c : Dev nD) : V m c main_v22 = shapeCast S32x1x1024 (m ((c : Thread nD τ).loc main_arg5) : Vec F S32x1024 .f32) shapeCasts_S32x1024_S32x1x1024 := by
  unfold V
  simp only [hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-! ## The words' ranges -/

/-- A sum of words that are at most one is at most their number. -/
theorem fold_le {n : ℕ} (f : Fin n → BitVec 32) (hf : ∀ i, (f i).toNat ≤ 1) (s : Finset (Fin n)) :
    (s.fold IntOp.addi 0#32 f).toNat ≤ s.card := by
  classical
  induction s using Finset.induction_on with
  | empty => simp
  | insert a s ha ih =>
    rw [Finset.fold_insert ha, Finset.card_insert_of_notMem ha]
    show (f a + _).toNat ≤ _
    rw [BitVec.toNat_add]
    have := hf a
    exact le_trans (Nat.mod_le _ _) (by omega)

theorem red_656_32 : S656x32.Reduces [1] S656 := by decide

/-- A widened truth value is at most one. -/
theorem wide_le (b : BitVec 1) : (b.setWidth 32).toNat ≤ 1 := by revert b; decide

/-- The lesser of a word up to 32 and 31 is below 32. -/
theorem min31_lt (x : BitVec 32) (h : x.toNat ≤ 32) : (IntOp.minsi x 31#32).toNat < 32 := by
  unfold IntOp.minsi
  split_ifs with hlt
  · rw [BitVec.slt, decide_eq_true_iff, BitVec.toInt_eq_toNat_of_lt (by omega)] at hlt
    have : (31#32 : BitVec 32).toInt = 31 := by decide
    omega
  · decide

/-- A block's expert is one of the 32. -/
theorem owners_lt (e : IVec S32 32) (j : S656.Idx) : (owners e j).toNat < 32 := by
  have hp : ∀ i, (past e i).toNat ≤ 1 := fun i => wide_le _
  have h : (Host.reduce IntOp.addi (past e) (constantI S_ 32 0#32) reducesTo_S656x32_S656_d1 h_S_ j).toNat ≤ 32 := by
    rw [Host.reduce_eq_fold_single IntOp.addi _ _ reducesTo_S656x32_S656_d1 red_656_32 h_S_ j]
    exact (fold_le (n := 32) (past e ∘ red_656_32.lift j) (fun i => hp _) Finset.univ).trans (le_of_eq (Finset.card_fin 32))
  have e31 : owners e j = IntOp.minsi (Host.reduce IntOp.addi (past e) (constantI S_ 32 0#32) reducesTo_S656x32_S656_d1 h_S_ j) 31#32 := rfl
  rw [e31]
  exact min31_lt _ h

/-- A block is in use or not. -/
theorem inUse_le (e : IVec S32 32) (j : S656.Idx) : (inUse e j).toNat ≤ 1 := wide_le _

/-! ## The tables the launch holds -/

/-- The tables' contents at the launch. -/
def tbl : pre0.Contents (Elt F) := fun j => V m (0 : Dev nD) (pre0.ref j)

/-- The first table: each block's expert. -/
def te : Vec F S656 .i32 := V m (0 : Dev nD) main_v15

/-- The second table: whether each block is in use. -/
def tv : Vec F S656 .i32 := V m (0 : Dev nD) main_v20

/-- The running totals of the experts' blocks in a memory. -/
def tot : IVec S32 32 := totals (upRows (m (((0 : Dev nD) : Thread nD τ).loc main_arg0)))

/-- A grid point's entry of a table. -/
def slot (i : grid0.Coords) : S656.Idx := fun | ⟨0, _⟩ => i 0

theorem idx_slot (i : grid0.Coords) (off : Fin 1 → ℕ) (h : off = ![(i 0).val]) (inb : ∀ a, off a + S1.size a ≤ S656.size a) (q : 0 < (Rect.unit (s := S656) off S1.size inb).shape.numel) :
    (Rect.unit (s := S656) off S1.size inb).idx (Shape.Idx.first q) = slot i := by
  subst h
  funext a
  match a with
  | ⟨0, _⟩ => exact Fin.ext (show (i 0).val + 1 * 0 = (i 0).val by omega)

/-- The word a table holds for a grid point is its entry there. -/
theorem here_eq (tb : Vec F S656 .i32) (i : grid0.Coords) : here tb i = tb (slot i) := by
  unfold here
  rw [idx_slot i _ (k0_off1_eq i)]

theorem tbl_zero (i : grid0.Coords) : here (te m) i = owners (tot m) (slot i) := by
  rw [here_eq]
  exact congrFun (V_owner m 0) (slot i)

theorem tbl_one (i : grid0.Coords) : here (tv m) i = inUse (tot m) (slot i) := by
  rw [here_eq]
  exact congrFun (V_inUse m 0) (slot i)

theorem owner_lt (i : grid0.Coords) : (here (te m) i).toNat < 32 := by
  rw [tbl_zero]
  exact owners_lt _ _

theorem use_le (i : grid0.Coords) : (here (tv m) i).toNat ≤ 1 := by
  rw [tbl_one]
  exact inUse_le _ _

/-- The rows a grid point reads: its own block where it is in use, the first otherwise. -/
theorem rowsAt (i : grid0.Coords) :
    cc0_transform_0 k0_off1_inb numel1_S1 (tbl m) i = ![(BitVec.ofNat 32 (i 0).val * here (tv m) i).toNat, 0] := rfl

theorem expertAt1 (i : grid0.Coords) : cc0_transform_1 k0_off1_inb numel1_S1 (tbl m) i = ![(here (te m) i).toNat, 0, 0] := rfl
theorem expertAt2 (i : grid0.Coords) : cc0_transform_2 k0_off1_inb numel1_S1 (tbl m) i = ![(here (te m) i).toNat, 0, 0] := rfl
theorem expertAt3 (i : grid0.Coords) : cc0_transform_3 k0_off1_inb numel1_S1 (tbl m) i = ![(here (te m) i).toNat, 0, 0] := rfl
theorem expertAt4 (i : grid0.Coords) : cc0_transform_4 k0_off1_inb numel1_S1 (tbl m) i = ![(here (te m) i).toNat, 0, 0] := rfl

theorem rows_lt (i : grid0.Coords) : (BitVec.ofNat 32 (i 0).val * here (tv m) i).toNat < 656 := by
  have h := use_le m i
  have hi : (i 0).val < 656 := (i 0).isLt
  rw [BitVec.toNat_mul, BitVec.toNat_ofNat]
  refine lt_of_le_of_lt (Nat.mod_le _ _) ?_
  refine lt_of_le_of_lt (Nat.mul_le_mul (Nat.mod_le _ _) h) ?_
  omega

/-- The tables' words keep every block inside its array. -/
theorem tbl_ok : ok0 (tbl m) := by
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · rw [rowsAt]
    have := rows_lt m i
    match a with
    | ⟨0, _⟩ => show ((BitVec.ofNat 32 (i 0).val * here (tv m) i).toNat + 1) * 512 ≤ 335872; omega
    | ⟨1, _⟩ => show (0 + 1) * 512 ≤ 512; omega
  · rw [expertAt1]
    have := owner_lt m i
    match a with
    | ⟨0, _⟩ => show ((here (te m) i).toNat + 1) * 1 ≤ 32; omega
    | ⟨1, _⟩ => show (0 + 1) * 1024 ≤ 1024; omega
    | ⟨2, _⟩ => show (0 + 1) * 2048 ≤ 2048; omega
  · rw [expertAt2]
    have := owner_lt m i
    match a with
    | ⟨0, _⟩ => show ((here (te m) i).toNat + 1) * 1 ≤ 32; omega
    | ⟨1, _⟩ => show (0 + 1) * 1 ≤ 1; omega
    | ⟨2, _⟩ => show (0 + 1) * 2048 ≤ 2048; omega
  · rw [expertAt3]
    have := owner_lt m i
    match a with
    | ⟨0, _⟩ => show ((here (te m) i).toNat + 1) * 1 ≤ 32; omega
    | ⟨1, _⟩ => show (0 + 1) * 1024 ≤ 1024; omega
    | ⟨2, _⟩ => show (0 + 1) * 1024 ≤ 1024; omega
  · rw [expertAt4]
    have := owner_lt m i
    match a with
    | ⟨0, _⟩ => show ((here (te m) i).toNat + 1) * 1 ≤ 32; omega
    | ⟨1, _⟩ => show (0 + 1) * 1 ≤ 1; omega
    | ⟨2, _⟩ => show (0 + 1) * 1024 ≤ 1024; omega

/-- A block's use word is zero or one. -/
theorem use_cases (i : grid0.Coords) : here (tv m) i = 0#32 ∨ here (tv m) i = 1#32 := by
  have h := use_le m i
  rcases Nat.le_one_iff_eq_zero_or_eq_one.mp h with h | h
  · exact .inl (BitVec.eq_of_toNat_eq h)
  · exact .inr (BitVec.eq_of_toNat_eq h)

theorem cond_one : k0_cond2 1#32 = 1#1 ∧ ¬ k0_cond3 1#32 = 1#1 := by decide
theorem cond_zero : ¬ k0_cond2 0#32 = 1#1 ∧ k0_cond3 0#32 = 1#1 := by decide

/-- Every point stores its block of the result. -/
theorem never_idle (w : Fin 6) (i : grid0.Coords) : idle0 (tbl m) w i = false := by
  match w with
  | 0 => rfl
  | 1 => rfl
  | 2 => rfl
  | 3 => rfl
  | 4 => rfl
  | 5 =>
    have e3 : (tbl m).atD 1 (k0_off3 i) = here (tv m) i := by
      rw [here_eq]
      have hin : ∀ a : Fin (pre0.ref 1).ty.shape.rank, k0_off3 i a + 1 ≤ (pre0.ref 1).ty.shape.size a := fun a => by
        have ha : a = (0 : Fin 1) := Subsingleton.elim (α := Fin 1) _ _
        rw [ha]
        exact k0_off3_inb i 0
      refine (dif_pos hin).trans ?_
      exact congrArg (tv m) (funext fun a => by
        match a with
        | ⟨0, _⟩ => exact Fin.ext (by show k0_off3 i 0 = _; rw [k0_off3_eq]; rfl))
    have e4 : (tbl m).atD 1 (k0_off4 i) = here (tv m) i := by
      rw [here_eq]
      have hin : ∀ a : Fin (pre0.ref 1).ty.shape.rank, k0_off4 i a + 1 ≤ (pre0.ref 1).ty.shape.size a := fun a => by
        have ha : a = (0 : Fin 1) := Subsingleton.elim (α := Fin 1) _ _
        rw [ha]
        exact k0_off4_inb i 0
      refine (dif_pos hin).trans ?_
      exact congrArg (tv m) (funext fun a => by
        match a with
        | ⟨0, _⟩ => exact Fin.ext (by show k0_off4 i 0 = _; rw [k0_off4_eq]; rfl))
    show (!(k0_cond2 ((tbl m).atD 1 (k0_off3 i)) == 1#1) && !(k0_cond3 ((tbl m).atD 1 (k0_off4 i)) == 1#1)) = false
    rw [e3, e4]
    rcases use_cases m i with h | h
    · rw [h]; decide
    · rw [h]; decide

end Cert.Experts
-- ==== Proof.ExpertFrame.lean ====
/- The launch of the expert call: what each grid point leaves, and what the whole run leaves. -/
module

public import proofs.«01_k».proof.Proof.ExpertTables

@[expose] public section

set_option maxRecDepth 16384

noncomputable section

namespace Cert.Experts

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

/-- The machine's propositions. -/
abbrev Res (F : FTy → Type) : Type := sProp (MT nD τ sig Unit (Elt F) ℕ (UR sig nD τ) ℕ)

/-- What a grid point stores: the expert's block of rows where the block is in use, zeros otherwise. -/
def outOf (use : BitVec 32) (x0 : Vec F S512x512 .i32) (x1 : Vec F S1x1024x2048 .f32) (x2 : Vec F S1x1x2048 .f32) (x3 : Vec F S1x1024x1024 .f32) (x4 : Vec F S1x1x1024 .f32) : Vec F S512x1024 .bf16 :=
  if k0_cond2 use = 1#1 then k0_pay10 x0 (castGu x1) x2 (castDn x3) x4 else k0_pay4

/-- The body at any point: the weights' scratch ends at the point's expert's weights, the block at what `outOf` states. -/
theorem run_point (c : Dev nD) (E : Set ℕ) (i : grid0.Coords) (q : PosShare TreeShare) (arg1 : Memref sig .tc .smem S656 .i32) (harg1 : arg1.IsWhole) (arg2 : Memref sig .tc .smem S656 .i32) (harg2 : arg2.IsWhole) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (te tv : Vec F S656 .i32) (x0 : Vec F S512x512 .i32) (x1 : Vec F S1x1024x2048 .f32) (x2 : Vec F S1x1x2048 .f32) (x3 : Vec F S1x1024x1024 .f32) (x4 : Vec F S1x1x1024 .f32)
    (s9 : Vec F S1024x2048 .bf16) (s10 : Vec F S1024x1024 .bf16) (K : PUnit → Res F)
    (hk : ¬ anew te i = 1#1 → s9 = castGu x1 ∧ s10 = castDn x3) (hu : here tv i = 0#32 ∨ here tv i = 1#32) :
    iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s9 ∗ owns (c : Thread nD τ) arg10 fullShare s10
        ∗ (iprop(owns (c : Thread nD τ) arg1 q te ∗ owns (c : Thread nD τ) arg2 q tv ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outOf (here tv i) x0 x1 x2 x3 x4) ∗ owns (c : Thread nD τ) arg9 fullShare (castGu x1) ∗ owns (c : Thread nD τ) arg10 fullShare (castDn x3)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  rcases hu with hu | hu
  · have hl : ¬ k0_cond2 (here tv i) = 1#1 := by rw [hu]; exact cond_zero.1
    have hd : k0_cond3 (here tv i) = 1#1 := by rw [hu]; exact cond_zero.2
    rw [outOf, if_neg hl]
    by_cases ha : anew te i = 1#1
    · exact run_anew_dead c E i q arg1 harg1 arg2 harg2 arg3 harg3 arg4 harg4 arg5 harg5 arg6 harg6 arg7 harg7 arg8 harg8 arg9 harg9 arg10 harg10 te tv x0 x1 x2 x3 x4 s9 s10 K ha hl hd
    · obtain ⟨h9, h10⟩ := hk ha
      subst h9 h10
      exact run_kept_dead c E i q arg1 harg1 arg2 harg2 arg3 harg3 arg4 harg4 arg5 harg5 arg6 harg6 arg7 harg7 arg8 harg8 arg9 harg9 arg10 harg10 te tv x0 x1 x2 x3 x4 (castGu x1) (castDn x3) K ha hl hd
  · have hl : k0_cond2 (here tv i) = 1#1 := by rw [hu]; exact cond_one.1
    have hd : ¬ k0_cond3 (here tv i) = 1#1 := by rw [hu]; exact cond_one.2
    rw [outOf, if_pos hl]
    by_cases ha : anew te i = 1#1
    · exact run_anew_live c E i q arg1 harg1 arg2 harg2 arg3 harg3 arg4 harg4 arg5 harg5 arg6 harg6 arg7 harg7 arg8 harg8 arg9 harg9 arg10 harg10 te tv x0 x1 x2 x3 x4 s9 s10 K ha hl hd
    · obtain ⟨h9, h10⟩ := hk ha
      subst h9 h10
      exact run_kept_live c E i q arg1 harg1 arg2 harg2 arg3 harg3 arg4 harg4 arg5 harg5 arg6 harg6 arg7 harg7 arg8 harg8 arg9 harg9 arg10 harg10 te tv x0 x1 x2 x3 x4 (castGu x1) (castDn x3) K ha hl hd

/-! ## A point and the one before -/

theorem ori_zero : ∀ a b : BitVec 1, ¬ Scalar.cmpi .ne (Scalar.extui (Scalar.ori a b) : BitVec 32) 0#32 = 1#1 → a = 0#1 ∧ b = 0#1 := by decide

theorem off2_val : ∀ n : Fin 655, (Scalar.indexCast (Scalar.maxsi (Scalar.subi (BitVec.ofNat 32 (n.val + 1)) 1#32) 0#32) : Index).toNat = n.val := by decide +kernel

theorem coords_val : ∀ t : Fin grid0.N, (grid0.coords t 0).val = t.val := by decide +kernel

/-- Where the weights are not cast anew the point is not the first and its expert is the one of the point before. -/
theorem kept_of (tb : Vec F S656 .i32) (i i' : grid0.Coords) (h : ¬ anew tb i = 1#1) (hi : (i' 0).val + 1 = (i 0).val) : here tb i = here tb i' := by
  unfold anew at h
  have hp : prior tb i = here tb i' := by
    rw [here_eq]
    unfold prior
    rw [idx_slot i']
    have hn : (i' 0).val < 655 := by have := (i 0).isLt; have h656 : grid0.bound 0 = 656 := rfl; omega
    unfold k0_off2
    rw [← hi]
    exact congrArg (fun n => ![n]) (off2_val ⟨(i' 0).val, hn⟩)
  obtain ⟨-, hb⟩ := ori_zero _ _ h
  rw [hp] at hb
  by_contra hne
  have h1 : Scalar.cmpi .ne (here tb i) (here tb i') = 1#1 := by
    show BitVec.ofBool (here tb i != here tb i') = 1#1
    rw [bne_iff_ne.mpr hne]
    rfl
  rw [h1] at hb
  exact absurd hb (by decide)

theorem first_anew (tb : Vec F S656 .i32) (i : grid0.Coords) (h : (i 0).val = 0) : anew tb i = 1#1 := by
  by_contra hn
  unfold anew at hn
  obtain ⟨ha, -⟩ := ori_zero _ _ hn
  rw [h] at ha
  exact absurd ha (by decide)

variable (m : (ℓ : Loc nD τ sig) → Buf (Elt F) ℓ) (ρ : Dev nD → PrngReg)

/-! ## @main up to the launch -/

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor

set_option maxHeartbeats 800000 in
/-- @main runs the host operations and then the launch, on the buffers as they leave them. -/
theorem before_launch (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨fresh0, fresh1, fresh2, fresh3⟩) main_chain

/-- No host operation before the launch writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the launch writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the launch writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the launch writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the launch writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the launch writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The launch's configuration and data -/

/-- The tables' contents, admissible. -/
abbrev adm : (pcfg0 (F := F)).Adm := ⟨tbl m, tbl_ok m⟩

/-- The launch at the tables' contents. -/
abbrev cfgM : Cfg sig Λ₀ := cfg0 (adm m)

theorem V_pre (c : Dev nD) (j : Fin pre0.K) : V m c (pre0.ref j) = tbl m j := by
  obtain rfl : c = 0 := Subsingleton.elim _ _
  rfl

/-- A window's block at a point, of its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The gate-up weights staged at a point. -/
def gu (c : Dev nD) (t : Fin (cfgM m).N) : Vec F S1x1024x2048 .f32 := iblk m c 1 t
/-- The down weights staged at a point. -/
def dn (c : Dev nD) (t : Fin (cfgM m).N) : Vec F S1x1024x1024 .f32 := iblk m c 3 t

/-- What a point stores. -/
def stored (c : Dev nD) (t : Fin (cfgM m).N) : Vec F S512x1024 .bf16 :=
  outOf (here (tv m) (grid0.coords t)) (iblk m c 0 t) (gu m c t) (iblk m c 2 t) (dn m c t) (iblk m c 4 t)

/-- What holds before point `n`: the scratch buffers hold the weights of the point before, and the tables are as the launch found them. -/
def inv (c : Dev nD) (n : ℕ) : Res F :=
  iprop(∃ (s9 : Vec F S1024x2048 .bf16) (s10 : Vec F S1024x1024 .bf16),
    owns (c : Thread nD τ) (Memref.whole cc0_scratch0) fullShare s9 ∗ owns (c : Thread nD τ) (Memref.whole cc0_scratch1) fullShare s10
    ∗ ⌜∀ t' : Fin (cfgM m).N, t'.val + 1 = n → s9 = castGu (gu m c t') ∧ s10 = castDn (dn m c t')⌝
    ∗ (∃ r, prngReg c r)
    ∗ owns (c : Thread nD τ) (Memref.whole main_v15) fullShare.right (te m) ∗ owns (c : Thread nD τ) (Memref.whole main_v20) fullShare.right (tv m))

/-- The launch's data: the arrays as found, each input's buffer left at its block, the result's at what the point stores. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => stored m c t
  Φ t := inv m c t.val
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; rfl
theorem after1 (c : Dev nD) (t : Fin (cfgM m).N) : (dats m 0 c).after 1 t = iblk m c 1 t := by dsimp only [dats]; rfl
theorem after2 (c : Dev nD) (t : Fin (cfgM m).N) : (dats m 0 c).after 2 t = iblk m c 2 t := by dsimp only [dats]; rfl
theorem after3 (c : Dev nD) (t : Fin (cfgM m).N) : (dats m 0 c).after 3 t = iblk m c 3 t := by dsimp only [dats]; rfl
theorem after4 (c : Dev nD) (t : Fin (cfgM m).N) : (dats m 0 c).after 4 t = iblk m c 4 t := by dsimp only [dats]; rfl
theorem after5 (c : Dev nD) (t : Fin (cfgM m).N) : (dats m 0 c).after 5 t = stored m c t := by dsimp only [dats]; rfl

theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- The invariant at a point's start. -/
theorem inv_start (c : Dev nD) (t : Fin (cfgM m).N) : (dats m 0 c).Φ t.castSucc = inv m c t.val := by
  dsimp only [dats]
  exact Pipeline.Dat.Φ_castSucc (fun n _ => inv m c n) t

/-- The invariant after a point. -/
theorem inv_end (c : Dev nD) (t : Fin (cfgM m).N) : (dats m 0 c).Φ t.succ = inv m c (t.val + 1) := by
  dsimp only [dats]
  rw [Fin.val_succ]

theorem read1 (t : Fin (cfgM m).N) (f : S32x1024x2048.Idx → Elt F .f32) (y : S1x1024x2048.Idx) :
    (((cfgM m).win 1).blk t).view.read (Elt F) f y = f ((((cfgM m).win 1).blk t).view.emb y) := rfl
theorem read3 (t : Fin (cfgM m).N) (f : S32x1024x1024.Idx → Elt F .f32) (y : S1x1024x1024.Idx) :
    (((cfgM m).win 3).blk t).view.read (Elt F) f y = f ((((cfgM m).win 3).blk t).view.emb y) := rfl
theorem emb1 (t : Fin (cfgM m).N) (y : S1x1024x2048.Idx) (a : Fin 3) :
    (((((cfgM m).win 1).blk t).view.emb y : S32x1024x2048.Idx) a : ℕ) = ((cfgM m).win 1).index t a * S1x1024x2048.size a + 1 * (y a).val := rfl
theorem indexOf1 (a : (pcfg0 (F := F)).Adm) (t : Fin (cfg0 a).N) : ((cfg0 a).win 1).index t = cc0_transform_1 k0_off1_inb numel1_S1 a.1 (grid0.coords t) := rfl
theorem index1 (t : Fin (cfgM m).N) : ((cfgM m).win 1).index t = ![(here (te m) (grid0.coords t)).toNat, 0, 0] :=
  (indexOf1 (adm m) t).trans (expertAt1 m (grid0.coords t))
theorem emb3 (t : Fin (cfgM m).N) (y : S1x1024x1024.Idx) (a : Fin 3) :
    (((((cfgM m).win 3).blk t).view.emb y : S32x1024x1024.Idx) a : ℕ) = ((cfgM m).win 3).index t a * S1x1024x1024.size a + 1 * (y a).val := rfl
theorem indexOf3 (a : (pcfg0 (F := F)).Adm) (t : Fin (cfg0 a).N) : ((cfg0 a).win 3).index t = cc0_transform_3 k0_off1_inb numel1_S1 a.1 (grid0.coords t) := rfl
theorem index3 (t : Fin (cfgM m).N) : ((cfgM m).win 3).index t = ![(here (te m) (grid0.coords t)).toNat, 0, 0] :=
  (indexOf3 (adm m) t).trans (expertAt3 m (grid0.coords t))

/-- The gate-up weights staged at points with one expert are the same. -/
theorem iblk_congr1 (c : Dev nD) (t t' : Fin (cfgM m).N) (h : here (te m) (grid0.coords t) = here (te m) (grid0.coords t')) : gu m c t = gu m c t' := by
  funext y
  refine (read1 m t _ y).trans (Eq.trans (congrArg _ (funext fun a => Fin.ext ?_)) (read1 m t' _ y).symm)
  exact (emb1 m t y a).trans ((congrArg (fun f : Fin 3 → ℕ => f a * S1x1024x2048.size a + 1 * (y a).val) ((index1 m t).trans ((congrArg (fun w : BitVec 32 => (![w.toNat, 0, 0] : Fin 3 → ℕ)) h).trans (index1 m t').symm))).trans (emb1 m t' y a).symm)

/-- The down weights staged at points with one expert are the same. -/
theorem iblk_congr3 (c : Dev nD) (t t' : Fin (cfgM m).N) (h : here (te m) (grid0.coords t) = here (te m) (grid0.coords t')) : dn m c t = dn m c t' := by
  funext y
  refine (read3 m t _ y).trans (Eq.trans (congrArg _ (funext fun a => Fin.ext ?_)) (read3 m t' _ y).symm)
  exact (emb3 m t y a).trans ((congrArg (fun f : Fin 3 → ℕ => f a * S1x1024x1024.size a + 1 * (y a).val) ((index3 m t).trans ((congrArg (fun w : BitVec 32 => (![w.toNat, 0, 0] : Fin 3 → ℕ)) h).trans (index3 m t').symm))).trans (emb3 m t' y a).symm)

/-! ## The body's obligation -/

abbrev st0 (t : Fin (cfgM m).N) := ((cfgM m).win 0).stage ((cfgM m).slots t 0)
abbrev st1 (t : Fin (cfgM m).N) := ((cfgM m).win 1).stage ((cfgM m).slots t 1)
abbrev st2 (t : Fin (cfgM m).N) := ((cfgM m).win 2).stage ((cfgM m).slots t 2)
abbrev st3 (t : Fin (cfgM m).N) := ((cfgM m).win 3).stage ((cfgM m).slots t 3)
abbrev st4 (t : Fin (cfgM m).N) := ((cfgM m).win 4).stage ((cfgM m).slots t 4)
abbrev st5 (t : Fin (cfgM m).N) := ((cfgM m).win 5).stage ((cfgM m).slots t 5)

/-- The body at a point, on the buffers the launch calls it with. -/
abbrev bodyAt (t : Fin (cfgM m).N) : Prog (TpuEff nD τ sig (Elt F) Λ₀ .tc) PUnit :=
  cc0_moe_experts (grid0.coords t) (Memref.whole main_v15) (Memref.isWhole_whole _) (Memref.whole main_v20) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (Memref.whole cc0_scratch0) (Memref.isWhole_whole _) (Memref.whole cc0_scratch1) (Memref.isWhole_whole _)

/-- What the body is called with at a point. -/
def bodyPre (c : Dev nD) (t : Fin (cfgM m).N) : Res F :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d))
    ∗ (∃ d, owns (c : Thread nD τ) (st5 m t) fullShare ((dats m 0 c).before 5 t d)))

/-- What the body returns at a point. -/
def bodyPost (c : Dev nD) (t : Fin (cfgM m).N) : Res F :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t)
    ∗ owns (c : Thread nD τ) (st5 m t) fullShare ((dats m 0 c).after 5 t))

set_option maxHeartbeats 800000 in
/-- The body at any point, from what it is called with to what it returns. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4]
  rw [show (dats m 0 c).owesAt () t.succ = (dats m 0 c).owesAt () t.castSucc from rfl, inv_start, inv_end,
    after0, after1, after2, after3, after4, after5]
  unfold inv
  iintro ⟨⟨%s9, %s10, S9, S10, %hs, Hr, T1, T2⟩, Ho, ⟨%d0, H0⟩, ⟨%d1, H1⟩, ⟨%d2, H2⟩, ⟨%d3, H3⟩, ⟨%d4, H4⟩, ⟨%d5, H5⟩⟩
  have hk : ¬ anew (te m) (grid0.coords t) = 1#1 → s9 = castGu (gu m c t) ∧ s10 = castDn (dn m c t) := by
    intro ha
    by_cases h0 : t.val = 0
    · exact absurd (first_anew (te m) (grid0.coords t) ((coords_val t).trans h0)) ha
    · have hlt : t.val - 1 < (cfgM m).N := lt_of_le_of_lt (Nat.sub_le _ _) t.isLt
      have hh : here (te m) (grid0.coords t) = here (te m) (grid0.coords ⟨t.val - 1, hlt⟩) :=
        kept_of (te m) _ _ ha (by rw [coords_val, coords_val]; show t.val - 1 + 1 = t.val; omega)
      have h := hs ⟨t.val - 1, hlt⟩ (by show t.val - 1 + 1 = t.val; omega)
      rw [iblk_congr1 m c _ _ hh, iblk_congr3 m c _ _ hh]
      exact h
  iapply (run_point c Set.univ (grid0.coords t) fullShare.right _ _ _ _ _ _ _ _ _ _ _ _ _ _ _ _ _ _ _ _ (te m) (tv m) (iblk m c 0 t) (gu m c t) (iblk m c 2 t) (dn m c t) (iblk m c 4 t) s9 s10 _ hk (use_cases m _))
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [H5]; · iexists _; iexact H5
  isplitl [S9]; · iexact S9
  isplitl [S10]; · iexact S10
  iintro ⟨T1, T2, H0, H1, H2, H3, H4, H5, S9, S10⟩
  isplitl [S9 S10 Hr T1 T2]
  · iexists _; iexists _
    isplitl [S9]; · iexact S9
    isplitl [S10]; · iexact S10
    isplitr
    · ipureintro
      intro t' ht'
      obtain rfl : t' = t := Fin.ext (by omega)
      exact ⟨rfl, rfl⟩
    isplitl [Hr]; · iexact Hr
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body as spelled above. -/
theorem defs₀_row (t : Fin (cfgM m).N) :
    defs₀ (F := F) .tc (cfgM m).body ((cfgM m).bodyArgs t ((cfgM m).slots t)) = bodyAt m t := by
  unfold defs₀; rw [Defs.onTc_tc]

theorem idle_eq (w : Fin (cfgM m).W) (t : Fin (cfgM m).N) : (cfgM m).idle w ((cfgM m).grid.coords t) = false := never_idle m w (grid0.coords t)

/-- The launch's obligation of its body. -/
theorem body_obligation (c : Dev nD) : BodyObligation (dats (F := F) m 0 c) (defs₀ (F := F)) Variants.none () Set.univ := fun t => by
  rw [bigSep_W0, bigSep_W0, defs₀_row]
  simp only [idle_eq]
  have h5 : idle0 (tbl m) 5 ((pcfg0.gridAt (tbl m)).coords t) = false := never_idle m 5 _
  simp only [h5]
  exact triple_restated (sound_body m c t) rfl .rfl fun _ => .rfl

/-! ## The run -/

theorem tables_held (c : Dev nD) : (Pipeline.ΦT (U := UR sig nD τ) pre0 (tbl m) c : Res F)
    = iprop(owns (c : Thread nD τ) (Memref.whole main_v15) fullShare.right (te m) ∗ owns (c : Thread nD τ) (Memref.whole main_v20) fullShare.right (tv m)) := by
  rw [owns_whole, owns_whole]
  unfold Pipeline.ΦT Pipeline.prefHeld
  rw [show (Finset.univ : Finset (Fin 2)) = insert 0 {1} from by decide, bigSep_insert (by decide), bigSep_singleton]
  rfl

/-- The invariant before the first point, from what the launch hands over. -/
theorem inv_first (c : Dev nD) : iprop(Pipeline.ΦA (U := UR sig nD τ) spec0 c ∗ Pipeline.ΦT pre0 (tbl m) c) ⊢ inv m c 0 := by
  rw [tables_held]
  unfold Pipeline.ΦA inv
  rw [scopedRest0_eq]
  iintro ⟨⟨⟨⟨%f9, S9⟩, ⟨%f10, S10⟩⟩, Hr⟩, T1, T2⟩
  iexists f9; iexists f10
  isplitl [S9]; · rw [owns_whole]; iexact S9
  isplitl [S10]; · rw [owns_whole]; iexact S10
  isplitr
  · ipureintro
    intro t' ht'
    exact absurd ht' (Nat.succ_ne_zero _)
  isplitl [Hr]; · iexact Hr
  isplitl [T1]; · iexact T1
  iexact T2

/-- What the invariant leaves after the last point. -/
theorem inv_last (c : Dev nD) (n : ℕ) : inv m c n ⊢ Pipeline.ΦA (U := UR sig nD τ) spec0 c := by
  unfold Pipeline.ΦA inv
  rw [scopedRest0_eq]
  simp only [owns_whole]
  iintro ⟨%s9, %s10, S9, S10, -, Hr, T1, T2⟩
  isplitl [S9 S10]
  · isplitl [S9]
    · iexists s9; iexact S9
    · iexists s10; iexact S10
  iexact Hr

set_option backward.isDefEq.respectTransparency.types false in
set_option maxHeartbeats 800000 in
/-- The run of @main: it ends, with the launch's arrays at what its data says, every other buffer as the launch found it, and every counter at zero. -/
theorem run_main : θ_run defs (onTc (τ := τ) (main (F := F))) (s₀ m ρ)
    (fun r => (Pipeline.FramePost (fun _ => cfgM m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := before_launch m Variants.none) (hA := A_eq m) (hpf := V_pre m)
    (hin := fun c => inv_first m c) (hout := fun c => inv_last m c _)

/-- The run leaves the arguments unchanged, the result at what the launch's data says, and every counter at zero. -/
theorem run_args : θ_run defs (onTc (τ := τ) (main (F := F))) ⟨m, fun _ => 0, ρ⟩ (fun r => (∀ c : Dev nD,
      r.2.mem ((c.tc : Thread nD τ).loc main_v23) = (dats m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 5,
      ((h.1 c).2 main_arg0 (Pipeline.mem_restRefs_of main_arg0 (by decide) (show ∀ w : Fin 6, (spec0 w).arr.view.ref ≠ main_arg0 by decide))).trans (V_arg0 m c),
      ((h.1 c).1 0).trans (((dats m 0 c).arrAt_in 0 rfl _).trans ((A_eq m c 0).trans (V_arg1 m c))),
      ((h.1 c).1 1).trans (((dats m 0 c).arrAt_in 1 rfl _).trans ((A_eq m c 1).trans (V_arg2 m c))),
      ((h.1 c).2 main_arg3 (Pipeline.mem_restRefs_of main_arg3 (by decide) (show ∀ w : Fin 6, (spec0 w).arr.view.ref ≠ main_arg3 by decide))).trans (V_arg3 m c),
      ((h.1 c).1 3).trans (((dats m 0 c).arrAt_in 3 rfl _).trans ((A_eq m c 3).trans (V_arg4 m c))),
      ((h.1 c).2 main_arg5 (Pipeline.mem_restRefs_of main_arg5 (by decide) (show ∀ w : Fin 6, (spec0 w).arr.view.ref ≠ main_arg5 by decide))).trans (V_arg5 m c)⟩, h.2⟩) (run_main m ρ)

end Cert.Experts
-- ==== Proof.ExpertMaths.lean ====
/- One row through one expert, in the ideal numbers. -/
module

public import Idealize.ShloMosaic.Lib.Pointwise
public import Idealize.ShloMosaic.Lib.KernelVsHost

@[expose] public section

noncomputable section

namespace Cert.Experts

open Idealize.ShloMosaic
open scoped BigOperators

/-- The number in a word's low half. -/
def low (w : BitVec 32) : EReal := Ideal.ofBits .f32 (IntOp.shli .host w 16#32)
/-- The number in a word's high half. -/
def high (w : BitVec 32) : EReal := Ideal.ofBits .f32 (IntOp.andi w 4294901760#32)

/-- The clamped gated product of a gate and an up value. -/
def gated (g u : EReal) : EReal :=
  (min (Ideal.ofBits .f32 0x40E00000#32) (max (Ideal.ofBits .f32 0xC0E00000#32) u) + 1)
    * (min g (Ideal.ofBits .f32 0x40E00000#32) * Ideal.logistic (Ideal.ofBits .f32 0x3FD9DB23#32 * min g (Ideal.ofBits .f32 0x40E00000#32)))

/-- A row's gate and up values: low halves against the first rows of the weights, high halves against the rest. -/
def wide (x : Fin 512 → BitVec 32) (w : Fin 1024 → Fin 2048 → EReal) (b : Fin 2048 → EReal) (f : Fin 2048) : EReal :=
  (∑ d : Fin 512, low (x d) * w ⟨d.val, by omega⟩ f) + (∑ d : Fin 512, high (x d) * w ⟨512 + d.val, by omega⟩ f) + b f

/-- A row's output of one expert. -/
def expert (x : Fin 512 → BitVec 32) (wg : Fin 1024 → Fin 2048 → EReal) (bg : Fin 2048 → EReal) (wd : Fin 1024 → Fin 1024 → EReal) (bd : Fin 1024 → EReal)
    (l : Fin 1024) : EReal :=
  (∑ f : Fin 1024, gated (wide x wg bg ⟨f.val, by omega⟩) (wide x wg bg ⟨1024 + f.val, by omega⟩) * wd f l) + bd l

/-- A sum over 1024 places as one over the first 512 and one over the rest. -/
theorem sum_halves (g : Fin 1024 → EReal) : ∑ d : Fin 1024, g d = (∑ d : Fin 512, g ⟨d.val, by omega⟩) + ∑ d : Fin 512, g ⟨512 + d.val, by omega⟩ :=
  Fin.sum_univ_add (a := 512) (b := 512) g

/-- The quotient form of the logistic function. -/
theorem quotient_logistic (x : EReal) : Ideal.div 1 (1 + Ideal.exp (-x)) = Ideal.logistic x := rfl

/-- A word shifted by sixteen is the same on either unit. -/
theorem shift_same (w : BitVec 32) : IntOp.shli .vector w 16#32 = IntOp.shli .host w 16#32 := rfl

end Cert.Experts
-- ==== Proof.ExpertElem.lean ====
/- One block of the expert call's output, read at an index. -/
module

public import proofs.«01_k».proof.Proof.ExpertFrame
public import proofs.«01_k».proof.Proof.ExpertMaths
public import Idealize.ShloMosaic.Lib.Pipeline.ValueKit.Tiles

@[expose] public section

set_option maxRecDepth 16384

noncomputable section

namespace Cert.Experts

open Idealize.ShloMosaic Idealize.ShloMosaic.TcCoe Idealize.SL.Sem
open scoped BigOperators
open Cert.Kernel2Ideal Cert.Kernel2Ideal.Gen

/-- A block not in use is zero. -/
theorem idle_at (p : Fin 512) (l : Fin 1024) : (k0_pay4 (F := Ideal) (ix2 p l) : EReal) = 0 := by
  unfold k0_pay4
  pointwise

/-- A block in use, at a row and a column. -/
theorem block_at (x : Vec Ideal S512x512 .i32) (wg : Vec Ideal S1024x2048 .bf16) (bg : Vec Ideal S1x1x2048 .f32) (wd : Vec Ideal S1024x1024 .bf16)
    (bd : Vec Ideal S1x1x1024 .f32) (p : Fin 512) (l : Fin 1024) :
    (k0_pay10 x wg bg wd bd (ix2 p l) : EReal)
      = expert (fun d => x (ix2 p d)) (fun d f => wg (ix2 d f)) (fun f => bg (ix3 0 0 f)) (fun f l => wd (ix2 f l)) (fun l => bd (ix3 0 0 l)) l := by
  unfold k0_pay10
  pointwise
  rfl

/-- One quarter of the wide weights after the cast. -/
theorem quarter_wide (k : ℕ) (h) (y : Vec Ideal S1x1024x2048 .f32) (w : Vec Ideal S256x2048 .bf16)
    (hw : ∀ (d : Fin 256) (f : Fin 2048), (w (ix2 d f) : EReal) = View.ld y (rgu k h) (ix3 (0 : Fin 1) d f)) (D : Fin 1024) (f : Fin 2048) :
    View.TileAt (Val := Elt Ideal) (S := S1024x2048) (e := .bf16) (ix2 D f) ![k, 0] S256x2048.size w (y (ix3 (0 : Fin 1) D f) : EReal) := by
  intro x hx
  have h0 : D.val = k + (x 0).val := hx 0
  have h1 : f.val = 0 + (x 1).val := hx 1
  have hx' : x = ix2 (x 0) (x 1) := eq_ix2 x
  rw [hx']
  refine (hw (x 0) (x 1)).trans ?_
  show y _ = y _
  refine congrArg y (funext fun a => Fin.ext ?_)
  match a with
  | ⟨0, _⟩ => rfl
  | ⟨1, _⟩ => show k + 1 * (x 0).val = D.val; omega
  | ⟨2, _⟩ => show 0 + 1 * (x 1).val = f.val; omega

/-- One quarter of the second weights after the cast. -/
theorem quarter_down (k : ℕ) (h) (y : Vec Ideal S1x1024x1024 .f32) (w : Vec Ideal S256x1024 .bf16)
    (hw : ∀ (d : Fin 256) (f : Fin 1024), (w (ix2 d f) : EReal) = View.ld y (rdn k h) (ix3 (0 : Fin 1) d f)) (D : Fin 1024) (f : Fin 1024) :
    View.TileAt (Val := Elt Ideal) (S := S1024x1024) (e := .bf16) (ix2 D f) ![k, 0] S256x1024.size w (y (ix3 (0 : Fin 1) D f) : EReal) := by
  intro x hx
  have h0 : D.val = k + (x 0).val := hx 0
  have h1 : f.val = 0 + (x 1).val := hx 1
  have hx' : x = ix2 (x 0) (x 1) := eq_ix2 x
  rw [hx']
  refine (hw (x 0) (x 1)).trans ?_
  show y _ = y _
  refine congrArg y (funext fun a => Fin.ext ?_)
  match a with
  | ⟨0, _⟩ => rfl
  | ⟨1, _⟩ => show k + 1 * (x 0).val = D.val; omega
  | ⟨2, _⟩ => show 0 + 1 * (x 1).val = f.val; omega

/-- The wide weights after the cast are the weights. -/
theorem castGu_at (y : Vec Ideal S1x1024x2048 .f32) (d : Fin 1024) (f : Fin 2048) : (castGu y (ix2 d f) : EReal) = y (ix3 (0 : Fin 1) d f) := by
  unfold castGu
  refine View.canon_eq_of_allAt _ _ _ (coverGu _ _ _ _ _) ?_
  refine View.allAt_cons_unit _ _ _ _ _ (quarter_wide 768 inb_S1x1024x2048_S1x256x2048_0_768_0 y _ (fun d f => by unfold k0_pay2; pointwise) d f) ?_
  refine View.allAt_cons_unit _ _ _ _ _ (quarter_wide 512 inb_S1x1024x2048_S1x256x2048_0_512_0 y _ (fun d f => by unfold k0_pay9; pointwise) d f) ?_
  refine View.allAt_cons_unit _ _ _ _ _ (quarter_wide 256 inb_S1x1024x2048_S1x256x2048_0_256_0 y _ (fun d f => by unfold k0_pay7; pointwise) d f) ?_
  exact View.allAt_cons_unit _ _ _ _ _ (quarter_wide 0 inb_S1x1024x2048_S1x256x2048_0_0_0 y _ (fun d f => by unfold k0_pay5; pointwise) d f) (View.allAt_nil _ _)

/-- The second weights after the cast are the weights. -/
theorem castDn_at (y : Vec Ideal S1x1024x1024 .f32) (d f : Fin 1024) : (castDn y (ix2 d f) : EReal) = y (ix3 (0 : Fin 1) d f) := by
  unfold castDn
  refine View.canon_eq_of_allAt _ _ _ (coverDn _ _ _ _ _) ?_
  refine View.allAt_cons_unit _ _ _ _ _ (quarter_down 768 inb_S1x1024x1024_S1x256x1024_0_768_0 y _ (fun d f => by unfold k0_pay3; pointwise) d f) ?_
  refine View.allAt_cons_unit _ _ _ _ _ (quarter_down 512 inb_S1x1024x1024_S1x256x1024_0_512_0 y _ (fun d f => by unfold k0_pay1; pointwise) d f) ?_
  refine View.allAt_cons_unit _ _ _ _ _ (quarter_down 256 inb_S1x1024x1024_S1x256x1024_0_256_0 y _ (fun d f => by unfold k0_pay8; pointwise) d f) ?_
  exact View.allAt_cons_unit _ _ _ _ _ (quarter_down 0 inb_S1x1024x1024_S1x256x1024_0_0_0 y _ (fun d f => by unfold k0_pay6; pointwise) d f) (View.allAt_nil _ _)

/-- What a point stores, at a row and a column. -/
theorem outOf_at (use : BitVec 32) (x : Vec Ideal S512x512 .i32) (wg : Vec Ideal S1x1024x2048 .f32) (bg : Vec Ideal S1x1x2048 .f32)
    (wd : Vec Ideal S1x1024x1024 .f32) (bd : Vec Ideal S1x1x1024 .f32) (p : Fin 512) (l : Fin 1024) :
    (outOf use x wg bg wd bd (ix2 p l) : EReal) = if k0_cond2 use = 1#1 then
      expert (fun d => x (ix2 p d)) (fun d f => wg (ix3 (0 : Fin 1) d f)) (fun f => bg (ix3 0 0 f)) (fun f l => wd (ix3 (0 : Fin 1) f l)) (fun l => bd (ix3 0 0 l)) l else 0 := by
  unfold outOf
  split_ifs
  · rw [block_at]
    simp only [castGu_at, castDn_at]
  · exact idle_at p l

end Cert.Experts
-- ==== Proof.ExpertValue.lean ====
/- The expert call's result read at an index. -/
module

public import proofs.«01_k».proof.Proof.ExpertElem
public import Idealize.ShloMosaic.Lib.Pipeline.Value
public import Idealize.ShloMosaic.Lib.Pipeline.Cells
public import Idealize.ShloMosaic.Lib.Pipeline.TableIdle

@[expose] public section

set_option maxRecDepth 16384

noncomputable section

namespace Cert.Experts

open Idealize.ShloMosaic Idealize.ShloMosaic.TcCoe Idealize.SL.Sem
open Idealize.ShloMosaic.Pipeline (Dat Cfg)
open scoped BigOperators
open Cert.Kernel2Ideal Cert.Kernel2Ideal.Gen

section Blocks
variable {F : FTy → Type} [FloatOps F]
variable (m : (ℓ : Loc nD τ sig) → Buf (Elt F) ℓ)

/-! ## Where a block of the result lies -/

theorem indexOf5 (a : (pcfg0 (F := F)).Adm) (t : Fin (cfg0 a).N) : ((cfg0 a).win 5).index t = cc0_transform_5 (grid0.coords t) := rfl

/-- The result's blocks lie one after another. -/
theorem placeOf5 (a : (pcfg0 (F := F)).Adm) (t : Fin (cfg0 a).N) : ((cfg0 a).win 5).index t = (![t.val, 0] : Fin 2 → ℕ) := by
  rw [indexOf5]
  have h : (BitVec.ofNat 32 (grid0.coords t 0).val).toNat = t.val := by
    rw [coords_val t, BitVec.toNat_ofNat, Nat.mod_eq_of_lt]
    have : t.val < 656 := t.isLt
    omega
  exact congrArg (fun n : ℕ => (![n, 0] : Fin 2 → ℕ)) h

/-- Each point writes its block back. -/
theorem flushOf5 (a : (pcfg0 (F := F)).Adm) (t : Fin (cfg0 a).N) : ((cfg0 a).win 5).flush t = true := by
  rw [Pipeline.Window.flush_eq_flushF]
  unfold Pipeline.Window.flushF
  rw [Bool.and_eq_true, Bool.or_eq_true, decide_eq_true_iff, decide_eq_true_iff]
  have ht : t.val < grid0.N := t.isLt
  refine ⟨rfl, ?_⟩
  by_cases h : t.val + 1 = grid0.N
  · exact .inl h
  · have h' : t.val + 1 < grid0.N := by omega
    refine .inr ⟨h', (0 : Fin 2), ?_⟩
    rw [placeOf5, placeOf5]
    show t.val + 1 ≠ t.val
    omega

/-- Two points' blocks share nothing. -/
theorem apartOf5 (a : (pcfg0 (F := F)).Adm) (t t' : Fin (cfg0 a).N) (hne : t ≠ t') :
    Disjoint (((cfg0 a).win 5).blk t).view.set (((cfg0 a).win 5).blk t').view.set :=
  Pipeline.Window.disjoint_blk ((cfg0 a).win 5) (fun h => hne (Fin.ext (by
    rw [placeOf5, placeOf5] at h
    exact congrFun h (0 : Fin 2)))) rfl

theorem embOf5 (a : (pcfg0 (F := F)).Adm) (t : Fin (cfg0 a).N) (y : S512x1024.Idx) (b : Fin 2) :
    (((((cfg0 a).win 5).blk t).view.emb y : S335872x1024.Idx) b : ℕ) = ((cfg0 a).win 5).index t b * S512x1024.size b + 1 * (y b).val := rfl

theorem read5 (t : Fin (cfgM m).N) (f : S335872x1024.Idx → Elt F .bf16) (y : S512x1024.Idx) :
    (((cfgM m).win 5).blk t).view.read (Elt F) f y = f ((((cfgM m).win 5).blk t).view.emb y) := rfl

theorem cut5 (t : Fin (cfgM m).N) (f : S512x1024.Idx → Elt F .bf16) (y : S512x1024.Idx) :
    ((cfgM m).win 5).cut (grid0.coords t) f y = f y := rfl

/-- The result, in block `t`, is what point `t` stored. -/
theorem result_block (c : Dev nD) (t : Fin (cfgM m).N) (y : S512x1024.Idx) :
    ((dats m 0 c).arrAt 5 (cfgM m).N : S335872x1024.Idx → Elt F .bf16) ((((cfgM m).win 5).blk t).view.emb y) = stored m c t y := by
  refine (read5 m t _ y).symm.trans ?_
  rw [(dats m 0 c).read_blk_arrAt_eq_flushed 5 (fun t t' _ _ h => apartOf5 (adm m) t t' h) (cfgM m).N t t.isLt (flushOf5 (adm m) t)]
  show ((cfgM m).win 5).cut (grid0.coords t) ((dats m 0 c).after 5 t) y = _
  rw [after5]
  exact cut5 m t _ y

/-! ## What a point reads -/

theorem read0 (t : Fin (cfgM m).N) (f : S335872x512.Idx → Elt F .i32) (y : S512x512.Idx) :
    (((cfgM m).win 0).blk t).view.read (Elt F) f y = f ((((cfgM m).win 0).blk t).view.emb y) := rfl
theorem emb0 (t : Fin (cfgM m).N) (y : S512x512.Idx) (a : Fin 2) :
    (((((cfgM m).win 0).blk t).view.emb y : S335872x512.Idx) a : ℕ) = ((cfgM m).win 0).index t a * S512x512.size a + 1 * (y a).val := rfl
theorem indexOf0 (a : (pcfg0 (F := F)).Adm) (t : Fin (cfg0 a).N) : ((cfg0 a).win 0).index t = cc0_transform_0 k0_off1_inb numel1_S1 a.1 (grid0.coords t) := rfl
theorem index0 (t : Fin (cfgM m).N) : ((cfgM m).win 0).index t = ![(BitVec.ofNat 32 (grid0.coords t 0).val * here (tv m) (grid0.coords t)).toNat, 0] :=
  (indexOf0 (adm m) t).trans (rowsAt m (grid0.coords t))

theorem read2 (t : Fin (cfgM m).N) (f : S32x1x2048.Idx → Elt F .f32) (y : S1x1x2048.Idx) :
    (((cfgM m).win 2).blk t).view.read (Elt F) f y = f ((((cfgM m).win 2).blk t).view.emb y) := rfl
theorem emb2 (t : Fin (cfgM m).N) (y : S1x1x2048.Idx) (a : Fin 3) :
    (((((cfgM m).win 2).blk t).view.emb y : S32x1x2048.Idx) a : ℕ) = ((cfgM m).win 2).index t a * S1x1x2048.size a + 1 * (y a).val := rfl
theorem indexOf2 (a : (pcfg0 (F := F)).Adm) (t : Fin (cfg0 a).N) : ((cfg0 a).win 2).index t = cc0_transform_2 k0_off1_inb numel1_S1 a.1 (grid0.coords t) := rfl
theorem index2 (t : Fin (cfgM m).N) : ((cfgM m).win 2).index t = ![(here (te m) (grid0.coords t)).toNat, 0, 0] :=
  (indexOf2 (adm m) t).trans (expertAt2 m (grid0.coords t))

theorem read4 (t : Fin (cfgM m).N) (f : S32x1x1024.Idx → Elt F .f32) (y : S1x1x1024.Idx) :
    (((cfgM m).win 4).blk t).view.read (Elt F) f y = f ((((cfgM m).win 4).blk t).view.emb y) := rfl
theorem emb4 (t : Fin (cfgM m).N) (y : S1x1x1024.Idx) (a : Fin 3) :
    (((((cfgM m).win 4).blk t).view.emb y : S32x1x1024.Idx) a : ℕ) = ((cfgM m).win 4).index t a * S1x1x1024.size a + 1 * (y a).val := rfl
theorem indexOf4 (a : (pcfg0 (F := F)).Adm) (t : Fin (cfg0 a).N) : ((cfg0 a).win 4).index t = cc0_transform_4 k0_off1_inb numel1_S1 a.1 (grid0.coords t) := rfl
theorem index4 (t : Fin (cfgM m).N) : ((cfgM m).win 4).index t = ![(here (te m) (grid0.coords t)).toNat, 0, 0] :=
  (indexOf4 (adm m) t).trans (expertAt4 m (grid0.coords t))

/-- The expert of a point's block. -/
def exOf (t : Fin (cfgM m).N) : Fin 32 := ⟨(here (te m) (grid0.coords t)).toNat, owner_lt m _⟩

theorem exOf_val (t : Fin (cfgM m).N) : (exOf m t).val = (here (te m) (grid0.coords t)).toNat := by unfold exOf; exact Fin.val_mk _

/-- The rows staged at a point in use. -/
theorem rows_at (c : Dev nD) (t : Fin (cfgM m).N) (hu : here (tv m) (grid0.coords t) = 1#32) (p d : Fin 512) (R : Fin 335872) (hR : R.val = 512 * t.val + p.val) :
    (iblk m c 0 t : S512x512.Idx → Elt F .i32) (ix2 p d) = (m ((c : Thread nD τ).loc main_arg1) : S335872x512.Idx → Elt F .i32) (ix2 R d) := by
  refine (read0 m t _ (ix2 p d)).trans ?_
  refine (congrFun (V_arg1 m c) _).trans (congrArg (m ((c : Thread nD τ).loc main_arg1) : S335872x512.Idx → Elt F .i32) (funext fun a => Fin.ext ?_))
  refine (emb0 m t (ix2 p d) a).trans ?_
  rw [index0, hu]
  have h : (BitVec.ofNat 32 (grid0.coords t 0).val * 1#32).toNat = t.val := by
    rw [BitVec.mul_one, coords_val t, BitVec.toNat_ofNat, Nat.mod_eq_of_lt]
    have : t.val < 656 := t.isLt
    omega
  match a with
  | ⟨0, _⟩ => show (BitVec.ofNat 32 (grid0.coords t 0).val * 1#32).toNat * 512 + 1 * p.val = R.val; omega
  | ⟨1, _⟩ => show 0 * 512 + 1 * d.val = d.val; omega

/-- The wide weights staged at a point. -/
theorem gu_at (c : Dev nD) (t : Fin (cfgM m).N) (d : Fin 1024) (f : Fin 2048) :
    gu m c t (ix3 (0 : Fin 1) d f) = (m ((c : Thread nD τ).loc main_arg2) : S32x1024x2048.Idx → Elt F .f32) (ix3 (exOf m t) d f) := by
  refine (read1 m t _ (ix3 (0 : Fin 1) d f)).trans ?_
  refine (congrFun (V_arg2 m c) _).trans (congrArg (m ((c : Thread nD τ).loc main_arg2) : S32x1024x2048.Idx → Elt F .f32) (funext fun a => Fin.ext ?_))
  refine (emb1 m t (ix3 (0 : Fin 1) d f) a).trans ?_
  rw [index1, ← exOf_val]
  generalize exOf m t = e
  match a with
  | ⟨0, _⟩ => show e.val * 1 + 1 * 0 = e.val; omega
  | ⟨1, _⟩ => show 0 * 1024 + 1 * d.val = d.val; omega
  | ⟨2, _⟩ => show 0 * 2048 + 1 * f.val = f.val; omega

/-- The second weights staged at a point. -/
theorem dn_at (c : Dev nD) (t : Fin (cfgM m).N) (f l : Fin 1024) :
    dn m c t (ix3 (0 : Fin 1) f l) = (m ((c : Thread nD τ).loc main_arg4) : S32x1024x1024.Idx → Elt F .f32) (ix3 (exOf m t) f l) := by
  refine (read3 m t _ (ix3 (0 : Fin 1) f l)).trans ?_
  refine (congrFun (V_arg4 m c) _).trans (congrArg (m ((c : Thread nD τ).loc main_arg4) : S32x1024x1024.Idx → Elt F .f32) (funext fun a => Fin.ext ?_))
  refine (emb3 m t (ix3 (0 : Fin 1) f l) a).trans ?_
  rw [index3, ← exOf_val]
  generalize exOf m t = e
  match a with
  | ⟨0, _⟩ => show e.val * 1 + 1 * 0 = e.val; omega
  | ⟨1, _⟩ => show 0 * 1024 + 1 * f.val = f.val; omega
  | ⟨2, _⟩ => show 0 * 1024 + 1 * l.val = l.val; omega

/-- The first biases staged at a point. -/
theorem bgu_at (c : Dev nD) (t : Fin (cfgM m).N) (f : Fin 2048) :
    (iblk m c 2 t : S1x1x2048.Idx → Elt F .f32) (ix3 0 0 f)
      = shapeCast S32x1x2048 (m ((c : Thread nD τ).loc main_arg3) : Vec F S32x2048 .f32) shapeCasts_S32x2048_S32x1x2048 (ix3 (exOf m t) (0 : Fin 1) f) := by
  refine (read2 m t _ (ix3 0 0 f)).trans ?_
  refine (congrFun (V_bgu m c) _).trans (congrArg (shapeCast S32x1x2048 (m ((c : Thread nD τ).loc main_arg3) : Vec F S32x2048 .f32) shapeCasts_S32x2048_S32x1x2048)
    (funext fun a => Fin.ext ?_))
  refine (emb2 m t (ix3 0 0 f) a).trans ?_
  rw [index2, ← exOf_val]
  generalize exOf m t = e
  match a with
  | ⟨0, _⟩ => show e.val * 1 + 1 * 0 = e.val; omega
  | ⟨1, _⟩ => rfl
  | ⟨2, _⟩ => show 0 * 2048 + 1 * f.val = f.val; omega

/-- The second biases staged at a point. -/
theorem bd_at (c : Dev nD) (t : Fin (cfgM m).N) (l : Fin 1024) :
    (iblk m c 4 t : S1x1x1024.Idx → Elt F .f32) (ix3 0 0 l)
      = shapeCast S32x1x1024 (m ((c : Thread nD τ).loc main_arg5) : Vec F S32x1024 .f32) shapeCasts_S32x1024_S32x1x1024 (ix3 (exOf m t) (0 : Fin 1) l) := by
  refine (read4 m t _ (ix3 0 0 l)).trans ?_
  refine (congrFun (V_bd m c) _).trans (congrArg (shapeCast S32x1x1024 (m ((c : Thread nD τ).loc main_arg5) : Vec F S32x1024 .f32) shapeCasts_S32x1024_S32x1x1024)
    (funext fun a => Fin.ext ?_))
  refine (emb4 m t (ix3 0 0 l) a).trans ?_
  rw [index4, ← exOf_val]
  generalize exOf m t = e
  match a with
  | ⟨0, _⟩ => show e.val * 1 + 1 * 0 = e.val; omega
  | ⟨1, _⟩ => rfl
  | ⟨2, _⟩ => show 0 * 1024 + 1 * l.val = l.val; omega

end Blocks

variable (m : (ℓ : Loc nD τ sig) → Buf (Elt Ideal) ℓ)

theorem wideBias_at (b : Vec Ideal S32x2048 .f32) (e : Fin 32) (f : Fin 2048) :
    (shapeCast S32x1x2048 b shapeCasts_S32x2048_S32x1x2048 (ix3 e (0 : Fin 1) f) : EReal) = b (ix2 e f) := by
  pointwise

theorem downBias_at (b : Vec Ideal S32x1024 .f32) (e : Fin 32) (l : Fin 1024) :
    (shapeCast S32x1x1024 b shapeCasts_S32x1024_S32x1x1024 (ix3 e (0 : Fin 1) l) : EReal) = b (ix2 e l) := by
  pointwise

/-- The point whose block holds a row. -/
def pointOf (R : Fin 335872) : Fin (cfgM m).N := ⟨R.val / 512, by show R.val / 512 < 656; omega⟩

/-- The result at a row and a column: the row through its block's expert where the block is in use, zero where it is not. -/
theorem kernel_at (c : Dev nD) (R : Fin 335872) (l : Fin 1024) :
    (((dats m 0 c).arrAt 5 (cfgM m).N : S335872x1024.Idx → Elt Ideal .bf16) (ix2 R l) : EReal)
      = if k0_cond2 (here (tv m) (grid0.coords (pointOf m R))) = 1#1 then
          expert (fun d => (m ((c : Thread nD τ).loc main_arg1) : S335872x512.Idx → Elt Ideal .i32) (ix2 R d))
            (fun d f => (m ((c : Thread nD τ).loc main_arg2) : S32x1024x2048.Idx → Elt Ideal .f32) (ix3 (exOf m (pointOf m R)) d f))
            (fun f => (m ((c : Thread nD τ).loc main_arg3) : S32x2048.Idx → Elt Ideal .f32) (ix2 (exOf m (pointOf m R)) f))
            (fun f l => (m ((c : Thread nD τ).loc main_arg4) : S32x1024x1024.Idx → Elt Ideal .f32) (ix3 (exOf m (pointOf m R)) f l))
            (fun l => (m ((c : Thread nD τ).loc main_arg5) : S32x1024.Idx → Elt Ideal .f32) (ix2 (exOf m (pointOf m R)) l)) l
        else 0 := by
  have hp : R.val = 512 * (pointOf m R).val + R.val % 512 := by show R.val = 512 * (R.val / 512) + R.val % 512; omega
  have he : ix2 R l = ((((cfgM m).win 5).blk (pointOf m R)).view.emb (ix2 (⟨R.val % 512, by omega⟩ : Fin 512) l) : S335872x1024.Idx) := by
    funext a
    refine Fin.ext (Eq.symm ((embOf5 (adm m) (pointOf m R) _ a).trans ?_))
    rw [placeOf5]
    match a with
    | ⟨0, _⟩ => show (pointOf m R).val * 512 + 1 * (R.val % 512) = R.val; omega
    | ⟨1, _⟩ => show 0 * 1024 + 1 * l.val = l.val; omega
  rw [he]
  refine (result_block m c (pointOf m R) _).trans ?_
  unfold stored
  refine (outOf_at _ _ _ _ _ _ _ l).trans ?_
  rcases use_cases m (grid0.coords (pointOf m R)) with hu | hu
  · rw [hu, if_neg cond_zero.1, if_neg cond_zero.1]
  · rw [if_pos (by rw [hu]; exact cond_one.1), if_pos (by rw [hu]; exact cond_one.1)]
    have e0 : (fun d : Fin 512 => (iblk m c 0 (pointOf m R) : S512x512.Idx → Elt Ideal .i32) (ix2 (⟨R.val % 512, by omega⟩ : Fin 512) d)) = _ :=
      funext fun d => rows_at m c (pointOf m R) hu _ d R hp
    have e1 : (fun (d : Fin 1024) (f : Fin 2048) => (gu m c (pointOf m R) (ix3 (0 : Fin 1) d f) : EReal)) = _ := funext fun d => funext fun f => gu_at m c (pointOf m R) d f
    have e2 : (fun f : Fin 2048 => ((iblk m c 2 (pointOf m R) : S1x1x2048.Idx → Elt Ideal .f32) (ix3 0 0 f) : EReal)) = _ :=
      funext fun f => (bgu_at m c (pointOf m R) f).trans (wideBias_at _ _ f)
    have e3 : (fun f l : Fin 1024 => (dn m c (pointOf m R) (ix3 (0 : Fin 1) f l) : EReal)) = _ := funext fun f => funext fun l => dn_at m c (pointOf m R) f l
    have e4 : (fun l : Fin 1024 => ((iblk m c 4 (pointOf m R) : S1x1x1024.Idx → Elt Ideal .f32) (ix3 0 0 l) : EReal)) = _ :=
      funext fun l => (bd_at m c (pointOf m R) l).trans (downBias_at _ _ l)
    exact congrFun (congr (congr (congr (congr (congrArg expert e0) e1) e2) e3) e4) l

end Cert.Experts
-- ==== Proof.ExpertRef.lean ====
/- The reference of the expert call as a composition of a few named stages. -/
module

public import proofs.«01_k».proof.Proof.Gen.Reference2Ideal.Run
public import proofs.«01_k».proof.Proof.ExpertMaths

@[expose] public section

set_option maxRecDepth 16384

noncomputable section

namespace Cert.Experts.Ref

open Idealize.ShloMosaic Idealize.ShloMosaic.TcCoe Idealize.SL.Sem
open scoped BigOperators
open Cert.Reference2Ideal Cert.Reference2Ideal.Gen Cert.Reference2Ideal.Value

/-- Each row's block of 512. -/
def blockOf : IVec S335872 32 :=
  select (andi (cmpi .ne (signi (iotaInDim S335872 32 0)) (broadcastInDim S335872 ![] bcast_S_S335872 (signi (id (constantI S_ 32 512#32))))) (cmpi .ne (Host.remsi (iotaInDim S335872 32 0) (broadcastInDim S335872 ![] bcast_S_S335872 (id (constantI S_ 32 512#32)))) (broadcastInDim S335872 ![] bcast_S_S335872 (constantI S_ 32 0#32)))) (subi (Host.divsi (iotaInDim S335872 32 0) (broadcastInDim S335872 ![] bcast_S_S335872 (id (constantI S_ 32 512#32)))) (broadcastInDim S335872 ![] bcast_S_S335872 (constantI S_ 32 1#32))) (Host.divsi (iotaInDim S335872 32 0) (broadcastInDim S335872 ![] bcast_S_S335872 (id (constantI S_ 32 512#32))))

/-- The running totals of the experts' blocks. -/
def ends (r : IVec S32 32) : IVec S32 32 :=
  Host.reduceWindow IntOp.addi ![32] ![1] ![31] ![0] (select (andi (cmpi .ne (signi (addi r (broadcastInDim S32 ![] bcast_S_S32 (constantI S_ 32 511#32)))) (broadcastInDim S32 ![] bcast_S_S32 (signi (id (constantI S_ 32 512#32))))) (cmpi .ne (Host.remsi (addi r (broadcastInDim S32 ![] bcast_S_S32 (constantI S_ 32 511#32))) (broadcastInDim S32 ![] bcast_S_S32 (id (constantI S_ 32 512#32)))) (broadcastInDim S32 ![] bcast_S_S32 (constantI S_ 32 0#32)))) (subi (Host.divsi (addi r (broadcastInDim S32 ![] bcast_S_S32 (constantI S_ 32 511#32))) (broadcastInDim S32 ![] bcast_S_S32 (id (constantI S_ 32 512#32)))) (broadcastInDim S32 ![] bcast_S_S32 (constantI S_ 32 1#32))) (Host.divsi (addi r (broadcastInDim S32 ![] bcast_S_S32 (constantI S_ 32 511#32))) (broadcastInDim S32 ![] bcast_S_S32 (id (constantI S_ 32 512#32))))) (broadcastInDim S_ ![] bcast_S_S_ (constantI S_ 32 0#32)) reduceWindows_S32_S32_w32s1p31_0 h_S_

/-- The activations taken out of their words: low halves, then high halves. -/
def unpacked (x : IVec S335872x512 32) : FVec Ideal S335872x1024 .f32 :=
  concatenate S335872x1024 1 [⟨S335872x512, (bitcastToFloat (F := Ideal) .f32 (Host.shli x (broadcastInDim S335872x512 ![] bcast_S_S335872x512 (constantI S_ 32 16#32))))⟩, ⟨S335872x512, (bitcastToFloat (F := Ideal) .f32 (andi x (broadcastInDim S335872x512 ![] bcast_S_S335872x512 (constantI S_ 32 4294901760#32))))⟩] concatenates_S335872x512_S335872x512_S335872x1024_d1

/-- Gates and up values of each row for every expert. -/
def both (x : IVec S335872x512 32) (wg : FVec Ideal S32x1024x2048 .f32) (bg : FVec Ideal S32x2048 .f32) : FVec Ideal S32x335872x2048 .f32 :=
  addf (transpose S32x335872x2048 [0, 2, 1] (Host.dotGeneral dot_S32x1024x2048_S335872x1024_S32x2048x335872_1_1_02_0_n_n none wg (unpacked x)) transposes_S32x2048x335872_S32x335872x2048_0_2_1) (broadcastInDim S32x335872x2048 ![0, 1, 2] bcast_S32x1x2048_S32x335872x2048_0_1_2 (broadcastInDim S32x1x2048 ![0, 2] bcast_S32x2048_S32x1x2048_0_2 bg))

/-- The gates, at most seven. -/
def gate (a : FVec Ideal S32x335872x2048 .f32) : FVec Ideal S32x335872x1024 .f32 :=
  minimumf (extractStridedSlice S32x335872x1024 ![0, 0, 0] a slices_S32x335872x2048_S32x335872x1024_0_0_0) (broadcastInDim S32x335872x1024 ![] bcast_S_S32x335872x1024 (constant S_ .f32 0x40E00000#32))

/-- The up values, between minus seven and seven. -/
def upper (a : FVec Ideal S32x335872x2048 .f32) : FVec Ideal S32x335872x1024 .f32 :=
  minimumf (broadcastInDim S32x335872x1024 ![] bcast_S_S32x335872x1024 (id (constant S_ .f32 0x40E00000#32))) (maximumf (broadcastInDim S32x335872x1024 ![] bcast_S_S32x335872x1024 (id (constant S_ .f32 0xC0E00000#32))) (extractStridedSlice S32x335872x1024 ![0, 0, 1024] a slices_S32x335872x2048_S32x335872x1024_0_0_1024))

/-- The hidden values of each row for every expert. -/
def hidden (a : FVec Ideal S32x335872x2048 .f32) : FVec Ideal S32x335872x1024 .f32 :=
  mulf (addf (upper a) (broadcastInDim S32x335872x1024 ![] bcast_S_S32x335872x1024 (constant S_ .f32 0x3F800000#32))) (mulf (gate a) (Host.divf (broadcastInDim S32x335872x1024 ![] bcast_S_S32x335872x1024 (constant S_ .f32 0x3F800000#32)) (addf (broadcastInDim S32x335872x1024 ![] bcast_S_S32x335872x1024 (constant S_ .f32 0x3F800000#32)) (Host.exp (Host.negf (mulf (broadcastInDim S32x335872x1024 ![] bcast_S_S32x335872x1024 (constant S_ .f32 0x3FD9DB23#32)) (gate a)))))))

/-- The outputs of each row for every expert. -/
def outs (h : FVec Ideal S32x335872x1024 .f32) (wd : FVec Ideal S32x1024x1024 .f32) (bd : FVec Ideal S32x1024 .f32) : FVec Ideal S32x335872x1024 .f32 :=
  addf (Host.dotGeneral dot_S32x335872x1024_S32x1024x1024_S32x335872x1024_2_1_1_2_0_0 none h wd) (broadcastInDim S32x335872x1024 ![0, 1, 2] bcast_S32x1x1024_S32x335872x1024_0_1_2 (broadcastInDim S32x1x1024 ![0, 2] bcast_S32x1024_S32x1x1024_0_2 bd))

/-- Each row's expert, from the running totals. -/
def ownerOf (e : IVec S32 32) : IVec S335872 32 :=
  minsi (Host.reduce IntOp.addi (extui 32 (cmpi .sge (broadcastInDim S335872x32 ![0, 1] bcast_S335872x1_S335872x32_0_1 (broadcastInDim S335872x1 ![0] bcast_S335872_S335872x1_0 blockOf)) (broadcastInDim S335872x32 ![0, 1] bcast_S1x32_S335872x32_0_1 (broadcastInDim S1x32 ![1] bcast_S32_S1x32_1 e))) natLt_1_32) (constantI S_ 32 0#32) reducesTo_S335872x32_S335872_d1 h_S_) (broadcastInDim S335872 ![] bcast_S_S335872 (constantI S_ 32 31#32))

/-- Whether each row's block is in use, from the running totals. -/
def liveRow (e : IVec S32 32) : IVec S335872 1 :=
  cmpi .slt blockOf (broadcastInDim S335872 ![] bcast_S_S335872 (shapeCast _ (extractStridedSlice S1 ![31] e slices_S32_S1_31) shapeCasts_S1_S_))

/-- Whether a row in use is an expert's. -/
def mine (o : IVec S335872 32) (l : IVec S335872 1) : IVec S32x335872 1 :=
  andi (cmpi .eq (broadcastInDim S32x335872 ![0, 1] bcast_S32x1_S32x335872_0_1 (broadcastInDim S32x1 ![0] bcast_S32_S32x1_0 (iotaInDim S32 32 0))) (broadcastInDim S32x335872 ![0, 1] bcast_S1x335872_S32x335872_0_1 (broadcastInDim S1x335872 ![1] bcast_S335872_S1x335872_1 o))) (broadcastInDim S32x335872 ![0, 1] bcast_S1x335872_S32x335872_0_1 (broadcastInDim S1x335872 ![1] bcast_S335872_S1x335872_1 l))

/-- The outputs of the experts the rows belong to. -/
def result (p : IVec S32x335872 1) (y : FVec Ideal S32x335872x1024 .f32) : FVec Ideal S335872x1024 .bf16 :=
  truncf .bf16 (Host.reduceAdd (select (broadcastInDim S32x335872x1024 ![0, 1, 2] bcast_S32x335872x1_S32x335872x1024_0_1_2 (broadcastInDim S32x335872x1 ![0, 1] bcast_S32x335872_S32x335872x1_0_1 p)) y (broadcastInDim S32x335872x1024 ![] bcast_S_S32x335872x1024 (id (constant S_ .f32 0x00000000#32)))) (constant S_ .f32 0x00000000#32) reducesTo_S32x335872x1024_S335872x1024_d0 h_S_) bitsLt_bf16_f32

/-- The reference's result is the last stage. -/
theorem out (m : (ℓ : Loc nD τ sig) → Buf (Elt Ideal) ℓ) (c : Dev nD) : res_main_v64 m c
    = result (mine (ownerOf (ends (m ((c.tc : Thread nD τ).loc main_arg0)))) (liveRow (ends (m ((c.tc : Thread nD τ).loc main_arg0)))))
        (outs (hidden (both (m ((c.tc : Thread nD τ).loc main_arg1)) (m ((c.tc : Thread nD τ).loc main_arg2)) (m ((c.tc : Thread nD τ).loc main_arg3))))
          (m ((c.tc : Thread nD τ).loc main_arg4)) (m ((c.tc : Thread nD τ).loc main_arg5))) := rfl

end Cert.Experts.Ref
-- ==== Proof.ExpertReads.lean ====
/- The stages of the experts' reference, read at an index. -/
module

public import proofs.«01_k».proof.Proof.ExpertRef
public import Idealize.ShloMosaic.Lib.Routing.Words

@[expose] public section

set_option maxRecDepth 16384

noncomputable section

namespace Cert.Experts.Ref

open Idealize.ShloMosaic Idealize.ShloMosaic.TcCoe Idealize.SL.Sem
open scoped BigOperators
open Cert.Reference2Ideal Cert.Reference2Ideal.Gen Cert.Reference2Ideal.Value

/-- Gates and up values at an index: the weights against the activations, and a bias. -/
theorem both_at (x : IVec S335872x512 32) (wg : FVec Ideal S32x1024x2048 .f32) (bg : FVec Ideal S32x2048 .f32) (e : Fin 32) (R : Fin 335872) (f : Fin 2048) :
    (both x wg bg (ix3 e R f) : EReal) = (∑ d : Fin 1024, (wg (ix3 e d f) : EReal) * unpacked x (ix2 R d)) + bg (ix2 e f) := by
  unfold both
  pointwise

/-- An activation at an index. -/
theorem unpacked_at (x : IVec S335872x512 32) (R : Fin 335872) (d : Fin 1024) : (unpacked x (ix2 R d) : EReal)
    = if h : d.val < 512 then low (x (ix2 R ⟨d.val, h⟩)) else high (x (ix2 R ⟨d.val - 512, by omega⟩)) := by
  unfold unpacked
  pointwise
  rfl

/-- Gates and up values at an index, in halves. -/
theorem both_wide (x : IVec S335872x512 32) (wg : FVec Ideal S32x1024x2048 .f32) (bg : FVec Ideal S32x2048 .f32) (e : Fin 32) (R : Fin 335872) (f : Fin 2048) :
    (both x wg bg (ix3 e R f) : EReal) = wide (fun d => x (ix2 R d)) (fun d f => wg (ix3 e d f)) (fun f => bg (ix2 e f)) f := by
  rw [both_at, sum_halves]
  unfold wide
  refine congrArg₂ (· + ·) (congrArg₂ (· + ·) (Finset.sum_congr rfl fun d _ => ?_) (Finset.sum_congr rfl fun d _ => ?_)) rfl
  · rw [unpacked_at, dif_pos d.isLt, mul_comm]
  · rw [unpacked_at, dif_neg (show ¬ 512 + d.val < 512 by omega), mul_comm]
    refine congrArg (fun k : Fin 512 => high (x (ix2 R k)) * (wg (ix3 e ⟨512 + d.val, _⟩ f) : EReal)) (Fin.ext ?_)
    show 512 + d.val - 512 = d.val
    omega

/-- The gates at an index. -/
theorem gate_at (a : FVec Ideal S32x335872x2048 .f32) (e : Fin 32) (R : Fin 335872) (f : Fin 1024) :
    (gate a (ix3 e R f) : EReal) = min (a (ix3 e R ⟨f.val, by omega⟩) : EReal) (Ideal.ofBits .f32 0x40E00000#32) := by
  unfold gate
  pointwise

/-- The up values at an index. -/
theorem upper_at (a : FVec Ideal S32x335872x2048 .f32) (e : Fin 32) (R : Fin 335872) (f : Fin 1024) :
    (upper a (ix3 e R f) : EReal)
      = min (Ideal.ofBits .f32 0x40E00000#32) (max (Ideal.ofBits .f32 0xC0E00000#32) (a (ix3 e R ⟨1024 + f.val, by omega⟩) : EReal)) := by
  unfold upper
  pointwise
  rfl

/-- The hidden values at an index. -/
theorem hidden_at (a : FVec Ideal S32x335872x2048 .f32) (e : Fin 32) (R : Fin 335872) (f : Fin 1024) :
    (hidden a (ix3 e R f) : EReal) = gated (a (ix3 e R ⟨f.val, by omega⟩)) (a (ix3 e R ⟨1024 + f.val, by omega⟩)) := by
  unfold hidden
  pointwise
  rw [quotient_logistic, gate_at, upper_at]
  rfl

/-- The outputs at an index. -/
theorem outs_at (h : FVec Ideal S32x335872x1024 .f32) (wd : FVec Ideal S32x1024x1024 .f32) (bd : FVec Ideal S32x1024 .f32) (e : Fin 32) (R : Fin 335872) (l : Fin 1024) :
    (outs h wd bd (ix3 e R l) : EReal) = (∑ f : Fin 1024, (h (ix3 e R f) : EReal) * wd (ix3 e f l)) + bd (ix2 e l) := by
  unfold outs
  pointwise

/-- A row through one expert. -/
theorem outs_expert (x : IVec S335872x512 32) (wg : FVec Ideal S32x1024x2048 .f32) (bg : FVec Ideal S32x2048 .f32) (wd : FVec Ideal S32x1024x1024 .f32)
    (bd : FVec Ideal S32x1024 .f32) (e : Fin 32) (R : Fin 335872) (l : Fin 1024) :
    (outs (hidden (both x wg bg)) wd bd (ix3 e R l) : EReal)
      = expert (fun d => x (ix2 R d)) (fun d f => wg (ix3 e d f)) (fun f => bg (ix2 e f)) (fun f l => wd (ix3 e f l)) (fun l => bd (ix2 e l)) l := by
  rw [outs_at]
  unfold expert
  simp only [hidden_at, both_wide]

/-- Whether a row in use is an expert's, at an index. -/
theorem mine_at (o : IVec S335872 32) (l : IVec S335872 1) (e : Fin 32) (R : Fin 335872) :
    mine o l (ix2 e R) = IntOp.andi (IntOp.cmpi .eq (BitVec.ofNat 32 e.val) (o (ix1 R))) (l (ix1 R)) := by
  unfold mine
  pointwise

/-- The result at an index: a sum over the experts. -/
theorem result_at (p : IVec S32x335872 1) (y : FVec Ideal S32x335872x1024 .f32) (R : Fin 335872) (l : Fin 1024) :
    (result p y (ix2 R l) : EReal) = ∑ e : Fin 32, if p (ix2 e R) = 1#1 then (y (ix3 e R l) : EReal) else 0 := by
  unfold result
  pointwise
  refine Finset.sum_congr rfl fun e _ => ?_
  show (if p (ix2 e R) = 1#1 then _ else (Ideal.ofBits .f32 0x00000000#32 : EReal)) = _
  rw [Ideal.ofBits_zero_f32]

/-- Whether a row's block is in use, at an index. -/
theorem liveRow_at (e : IVec S32 32) (R : Fin 335872) : liveRow e (ix1 R) = IntOp.cmpi .slt (blockOf (ix1 R)) (e (ix1 31)) := by
  unfold liveRow
  pointwise

/-- A row's block. -/
theorem blockOf_at (R : Fin 335872) : blockOf (ix1 R) = BitVec.ofNat 32 (R.val / 512) :=
  Routing.pyDiv_ap bcast_S_S335872 (iotaInDim S335872 32 0) (constantI S_ 32 512#32) (ix1 R) (a := R.val) (b := 512) rfl rfl (by omega) (by decide) (by decide)

/-- The sum over the experts keeps the one the row belongs to. -/
theorem pick (o : BitVec 32) (ho : o.toNat < 32) (l : BitVec 1) (g : Fin 32 → EReal) :
    (∑ e : Fin 32, if IntOp.andi (IntOp.cmpi .eq (BitVec.ofNat 32 e.val) o) l = 1#1 then g e else 0) = if l = 1#1 then g ⟨o.toNat, ho⟩ else 0 := by
  by_cases hl : l = 1#1
  · rw [if_pos hl]
    have : ∀ e : Fin 32, (IntOp.andi (IntOp.cmpi .eq (BitVec.ofNat 32 e.val) o) l = 1#1) ↔ e = ⟨o.toNat, ho⟩ := fun e => by
      subst hl
      show (BitVec.ofBool (BitVec.ofNat 32 e.val == o)) &&& 1#1 = 1#1 ↔ _
      have hE : (BitVec.ofNat 32 e.val = o) ↔ e = ⟨o.toNat, ho⟩ := by
        constructor
        · rintro rfl
          refine Fin.ext ?_
          show e.val = (BitVec.ofNat 32 e.val).toNat
          rw [BitVec.toNat_ofNat, Nat.mod_eq_of_lt (by omega)]
        · rintro rfl
          exact BitVec.eq_of_toNat_eq (by rw [BitVec.toNat_ofNat, Nat.mod_eq_of_lt (by omega)])
      rw [← hE]
      by_cases h : BitVec.ofNat 32 e.val = o
      · simp [h]
      · rw [beq_false_of_ne h]
        simp [h]
    simp only [this, Finset.sum_ite_eq', Finset.mem_univ, if_true]
  · rw [if_neg hl]
    have hz : l = 0#1 := by revert hl; revert l; decide
    refine Finset.sum_eq_zero fun e _ => if_neg ?_
    subst hz
    show ¬ (_ &&& 0#1 = 1#1)
    simp

end Cert.Experts.Ref
-- ==== Proof.ExpertJoin.lean ====
/- The expert call and its reference give the same result. -/
module

public import proofs.«01_k».proof.Proof.ExpertValue
public import proofs.«01_k».proof.Proof.ExpertReads
public import proofs.«01_k».proof.Defs

@[expose] public section

set_option maxRecDepth 16384

noncomputable section

namespace Cert.Experts

open Idealize.ShloMosaic Idealize.ShloMosaic.TcCoe Idealize.SL.Sem
open scoped BigOperators

/-- The rows of each expert rounded up, as the reference adds them. -/
theorem upRows_eq (r : IVec Cert.Kernel2Ideal.S32 32) : upRows r = addi r (broadcastInDim Cert.Kernel2Ideal.S32 ![] Cert.Kernel2Ideal.Facts₀.bcast_S_S32 (constantI Cert.Kernel2Ideal.S_ 32 511#32)) := by
  funext i
  show r i + 512#32 - 1#32 = r i + 511#32
  generalize r i = x
  bv_omega

/-- The running totals are the reference's. -/
theorem totals_eq (r : IVec Cert.Kernel2Ideal.S32 32) : totals (upRows r) = Ref.ends r := by
  rw [upRows_eq]
  rfl

/-- Whether a block lies at or past the end of an expert's blocks. -/
theorem past_at (e : IVec Cert.Kernel2Ideal.S32 32) (j : Fin 656) (k : Fin 32) :
    past e (ix2 j k) = (IntOp.cmpi .sge (BitVec.ofNat 32 j.val) (e (ix1 k))).setWidth 32 := by
  unfold past
  pointwise

/-- A block's expert: the number of experts whose blocks end before it, at most 31. -/
theorem owners_at (e : IVec Cert.Kernel2Ideal.S32 32) (j : Fin 656) : owners e (ix1 j)
    = IntOp.minsi (Finset.univ.fold IntOp.addi (0#32) (fun k : Fin 32 => (IntOp.cmpi .sge (BitVec.ofNat 32 j.val) (e (ix1 k))).setWidth 32)) 31#32 := by
  unfold owners
  pointwise
  simp only [past_at]

/-- A row's expert is its block's. -/
theorem ownerOf_at (e : IVec Cert.Kernel2Ideal.S32 32) (R : Fin 335872) (j : Fin 656) (hj : j.val = R.val / 512) : Ref.ownerOf e (ix1 R) = owners e (ix1 j) := by
  rw [owners_at]
  unfold Ref.ownerOf
  pointwise
  simp only [Ref.blockOf_at, hj]

/-- Whether a block is in use, at an index. -/
theorem inUse_at (e : IVec Cert.Kernel2Ideal.S32 32) (j : Fin 656) : inUse e (ix1 j) = (IntOp.cmpi .slt (BitVec.ofNat 32 j.val) (e (ix1 31))).setWidth 32 := by
  unfold inUse
  pointwise

/-- The kernel's test of a widened truth value. -/
theorem test_wide (b : BitVec 1) : Cert.Kernel2Ideal.k0_cond2 (b.setWidth 32) = 1#1 ↔ b = 1#1 := by
  revert b; decide

section Same
variable (m : (ℓ : Loc Cert.Kernel2Ideal.nD Cert.Kernel2Ideal.τ Cert.Kernel2Ideal.sig) → Buf (Elt Ideal) ℓ)

/-- A row's block. -/
def blockAt (R : Fin 335872) : Fin 656 := ⟨R.val / 512, by omega⟩

/-- The entry of the tables for a row's block. -/
theorem slot_at (R : Fin 335872) : slot (Cert.Kernel2Ideal.grid0.coords (pointOf m R)) = ix1 (blockAt R) := by
  funext a
  match a with
  | ⟨0, _⟩ => exact Fin.ext (coords_val (pointOf m R))

/-- The reference's result is the kernel's, at a row and a column. -/
theorem same_at (c : Dev Cert.Kernel2Ideal.nD) (R : Fin 335872) (l : Fin 1024) :
    (Ref.result (Ref.mine (Ref.ownerOf (Ref.ends (m ((c.tc : Thread Cert.Kernel2Ideal.nD Cert.Kernel2Ideal.τ).loc Cert.Kernel2Ideal.main_arg0)))) (Ref.liveRow (Ref.ends (m ((c.tc : Thread Cert.Kernel2Ideal.nD Cert.Kernel2Ideal.τ).loc Cert.Kernel2Ideal.main_arg0)))))
        (Ref.outs (Ref.hidden (Ref.both (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)))) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) (ix2 R l) : EReal)
      = (((dats m 0 c).arrAt 5 (cfgM m).N : Cert.Kernel2Ideal.S335872x1024.Idx → Elt Ideal .bf16) (ix2 R l) : EReal) := by
  obtain rfl : c = 0 := Subsingleton.elim _ _
  rw [kernel_at, Ref.result_at]
  simp only [Ref.mine_at]
  have ht : tot m = Ref.ends (m (((0 : Dev Cert.Kernel2Ideal.nD).tc : Thread Cert.Kernel2Ideal.nD Cert.Kernel2Ideal.τ).loc Cert.Kernel2Ideal.main_arg0)) := totals_eq _
  have ho : Ref.ownerOf (Ref.ends (m (((0 : Dev Cert.Kernel2Ideal.nD).tc : Thread Cert.Kernel2Ideal.nD Cert.Kernel2Ideal.τ).loc Cert.Kernel2Ideal.main_arg0))) (ix1 R)
      = here (te m) (Cert.Kernel2Ideal.grid0.coords (pointOf m R)) := by
    rw [tbl_zero, slot_at, ← ht]
    exact ownerOf_at _ R (blockAt R) rfl
  have hu : here (tv m) (Cert.Kernel2Ideal.grid0.coords (pointOf m R))
      = (Ref.liveRow (Ref.ends (m (((0 : Dev Cert.Kernel2Ideal.nD).tc : Thread Cert.Kernel2Ideal.nD Cert.Kernel2Ideal.τ).loc Cert.Kernel2Ideal.main_arg0))) (ix1 R)).setWidth 32 := by
    rw [tbl_one, slot_at, ← ht, inUse_at, Ref.liveRow_at, Ref.blockOf_at]
    rfl
  rw [ho, hu, Ref.pick _ (owner_lt m _)]
  simp only [test_wide, Ref.outs_expert]
  rfl

end Same

/-- Kernel and reference give the same result. -/
theorem algebraic : algebraic_Kernel2Ideal_Reference2Ideal := by
  intro m g m' g' _ hargs
  refine ⟨fun c => (dats m 0 c).arrAt 5 (cfgM m).N, ?_, ?_⟩
  · exact (θ_run _ _ _).mono (fun r h c => h.1 c) (run_args (F := Ideal) m g)
  · refine (θ_run _ _ _).mono (fun r h c => ?_) (Cert.Reference2Ideal.Value.run (F := Ideal) m' g')
    obtain ⟨h0, h1⟩ := h c
    obtain ⟨a0, a1, a2, a3, a4, a5⟩ := hargs c
    refine ⟨h0.trans ((Ref.out m' c).trans ?_), h1⟩
    rw [a0, a1, a2, a3, a4, a5]
    funext i
    rw [eq_ix2 i]
    exact same_at m c (i 0) (i 1)

/-- The ideal kernel runs, keeps its arguments, and leaves no counter standing. -/
theorem ideal_quiet : quiescent_Kernel2Ideal := fun m g _ =>
  (θ_run Cert.Kernel2Ideal.defs _ _).mono (fun _ h => ⟨fun c => (h.1 c).2, h.2⟩) (run_args (F := Ideal) m g)

/-- The reference runs, keeps its arguments, and leaves no counter standing. -/
theorem reference_quiet : quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

end Cert.Experts
-- ==== Proof.ExpertBits.lean ====
/- The expert call runs at the bits: the program's text is that of the program read at the ideal numbers. -/
module

public import proofs.«01_k».proof.Proof.ExpertFrame
public import proofs.«01_k».proof.Proof.Gen.Kernel2
public import proofs.«01_k».proof.Defs

@[expose] public section

set_option maxRecDepth 16384

noncomputable section

namespace Cert.Experts

open Idealize.ShloMosaic Idealize.ShloMosaic.TcCoe Idealize.SL.Sem

/-- The kernel's body is the same text. -/
theorem bodies_same : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

/-- The program's procedures are the same. -/
theorem defs_same : Cert.Kernel2.defs (F := Bits) = Cert.Kernel2Ideal.defs (F := Bits) := by
  unfold Cert.Kernel2.defs Cert.Kernel2Ideal.defs
  rw [bodies_same]
  rfl

set_option maxHeartbeats 2000000 in
/-- The host program is the same text. -/
theorem main_same : Cert.Kernel2.main (F := Bits) = Cert.Kernel2Ideal.main (F := Bits) := rfl

/-- The kernel runs at the bits, keeps its arguments, and leaves no counter standing. -/
theorem kernel_quiet : quiescent_Kernel2 := by
  intro m g _
  rw [defs_same, main_same]
  exact (θ_run (Cert.Kernel2Ideal.defs (F := Bits)) _ _).mono (fun _ h => ⟨fun c => (h.1 c).2, h.2⟩) (run_args (F := Bits) m g)

end Cert.Experts
-- ==== Proof.lean ====
module

public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Join
public import proofs.«01_k».proof.Proof.ExpertJoin
public import proofs.«01_k».proof.Proof.ExpertBits
public import Idealize.ShloMosaic.Adequacy
public import Idealize.ShloMosaic.Init

@[expose] public section

noncomputable section

namespace Cert.Proof

open Idealize.ShloMosaic Idealize.SL.Sem Cert.Kernel

/-- Every claim: the programs run and keep their arguments, the named numbers are what the table says, and each kernel and
    its reference give the same results. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Attn.preFacts,
    fun m g _ => Cert.Kernel.Gen.frame m g,
    fun m g _ => Cert.KernelIdeal.Gen.frame m g,
    fun m g _ => Cert.KernelIdeal.Gen.frame m g,
    fun m g _ => Cert.Attn.reference_quiet m g,
    fun m g _ => Cert.Attn.reference_quiet m g,
    Cert.Experts.kernel_quiet,
    Cert.Experts.ideal_quiet,
    Cert.Experts.reference_quiet,
    Cert.Attn.preserves,
    trivial,
    Cert.Experts.algebraic,
    Cert.Attn.algebraic⟩

end Cert.Proof

end
